-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv448" .f32 0x3B124925#32 ((448⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S2x1024x1024 : Shape := ⟨3, ![2, 1024, 1024]⟩
abbrev S1024x1024 : Shape := ⟨2, ![1024, 1024]⟩
abbrev S3x1024x1024 : Shape := ⟨3, ![3, 1024, 1024]⟩
abbrev S4x8x128 : Shape := ⟨3, ![4, 8, 128]⟩
abbrev S2 : Shape := ⟨1, ![2]⟩
abbrev S3x2 : Shape := ⟨2, ![3, 2]⟩
abbrev S3 : Shape := ⟨1, ![3]⟩
abbrev S1 : Shape := ⟨1, ![1]⟩
abbrev S_ : Shape := ⟨0, ![]⟩
abbrev S1x1024x1024 : Shape := ⟨3, ![1, 1024, 1024]⟩
abbrev S512x1024 : Shape := ⟨2, ![512, 1024]⟩
abbrev S1x1 : Shape := ⟨2, ![1, 1]⟩
abbrev S1x512x1024 : Shape := ⟨3, ![1, 512, 1024]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .f32⟩
  | .local _ .vmem, ⟨0, _⟩ => ⟨S1024x2048, .f32⟩
  | .local _ .vmem, ⟨1, _⟩ => ⟨S1024x2048, .f32⟩
  | .local _ .vmem, ⟨2, _⟩ => ⟨S2x1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S3x1024x1024, .bf16⟩
  | .local _ .vmem, ⟨6, _⟩ => ⟨S3x1024x1024, .bf16⟩
  | .local _ .vmem, ⟨7, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32 : BitVec 32 := 1024#32
  let v8 : BitVec 32 := Scalar.muli v7 c1024_i32
  let c0_i32_8 : BitVec 32 := 0#32
  ![v8.toNat, 0]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v23 : BitVec 32 := Scalar.addi v2 c1_i32_16
  let c4_i32_17 : BitVec 32 := 4#32
  let v24 : BitVec 32 := Scalar.remsi v23 c4_i32_17
  let c1_i32_19 : BitVec 32 := 1#32
  let v25 : BitVec 32 := Scalar.muli v24 c1_i32_19
  let v26 : BitVec 32 := Scalar.addi c0_i32_20 v25
  v26.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v27 : BitVec 32 := Scalar.addi v2 c2_i32
  let c4_i32_21 : BitVec 32 := 4#32
  let v28 : BitVec 32 := Scalar.remsi v27 c4_i32_21
  let c1_i32_23 : BitVec 32 := 1#32
  let v29 : BitVec 32 := Scalar.muli v28 c1_i32_23
  let v30 : BitVec 32 := Scalar.addi c0_i32_24 v29
  v30.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_25 : BitVec 32 := 3#32
  let v31 : BitVec 32 := Scalar.addi v2 c3_i32_25
  let c4_i32_26 : BitVec 32 := 4#32
  let v32 : BitVec 32 := Scalar.remsi v31 c4_i32_26
  let c1_i32_28 : BitVec 32 := 1#32
  let v33 : BitVec 32 := Scalar.muli v32 c1_i32_28
  let v34 : BitVec 32 := Scalar.addi c0_i32_29 v33
  v34.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_57 : BitVec 32 := 1#32
  let v64 : BitVec 32 := Scalar.muli v5 c1_i32_57
  let v65 : BitVec 32 := Scalar.addi c0_i32_58 v64
  v65.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_70 : BitVec 32 := 1#32
  let v79 : BitVec 32 := Scalar.muli v5 c1_i32_70
  let v80 : BitVec 32 := Scalar.addi c0_i32_71 v79
  v80.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_85 : BitVec 32 := 1024#32
  let v99 : BitVec 32 := Scalar.muli v2 c1024_i32_85
  let c0_i32_90 : BitVec 32 := 0#32
  ![v99.toNat, 0]
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_99 : BitVec 32 := 1#32
  let v111 : BitVec 32 := Scalar.muli v7 c1_i32_99
  let v112 : BitVec 32 := Scalar.addi c0_i32_100 v111
  v112.toNat
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v126 : BitVec 32 := Scalar.muli v7 c1_i32_113
  let v127 : BitVec 32 := Scalar.addi c0_i32_114 v126
  v127.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_155 : BitVec 32 := 1#32
  let v164 : BitVec 32 := Scalar.muli v5 c1_i32_155
  let v165 : BitVec 32 := Scalar.addi c0_i32_156 v164
  v165.toNat
def k0_dev9 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_184 : BitVec 32 := 1#32
  let v190 : BitVec 32 := Scalar.muli v7 c1_i32_184
  let v191 : BitVec 32 := Scalar.addi c0_i32_185 v190
  v191.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_213 : BitVec 32 := 1#32
  let v216 : BitVec 32 := Scalar.muli v5 c1_i32_213
  let v217 : BitVec 32 := Scalar.addi c0_i32_214 v216
  v217.toNat
def k0_dev11 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_242 : BitVec 32 := 1#32
  let v242 : BitVec 32 := Scalar.muli v7 c1_i32_242
  let v243 : BitVec 32 := Scalar.addi c0_i32_243 v242
  v243.toNat
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_274 : BitVec 32 := 1#32
  let v271 : BitVec 32 := Scalar.muli v5 c1_i32_274
  let v272 : BitVec 32 := Scalar.addi c0_i32_275 v271
  v272.toNat
def k0_dev13 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_304 : BitVec 32 := 1#32
  let v298 : BitVec 32 := Scalar.muli v7 c1_i32_304
  let v299 : BitVec 32 := Scalar.addi c0_i32_305 v298
  v299.toNat
def k0_dev14 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_334 : BitVec 32 := 1#32
  let v325 : BitVec 32 := Scalar.muli v5 c1_i32_334
  let v326 : BitVec 32 := Scalar.addi c0_i32_335 v325
  v326.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_364 : BitVec 32 := 1#32
  let v352 : BitVec 32 := Scalar.muli v7 c1_i32_364
  let v353 : BitVec 32 := Scalar.addi c0_i32_365 v352
  v353.toNat
def k0_dev16 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_455 : BitVec 32 := 1#32
  let v453 : BitVec 32 := Scalar.addi v2 c1_i32_455
  let c0_i32_456 : BitVec 32 := 0#32
  let v454 : BitVec 32 := Scalar.addi v453 c0_i32_456
  let c4_i32_457 : BitVec 32 := 4#32
  let v455 : BitVec 32 := Scalar.remsi v454 c4_i32_457
  let c1_i32_462 : BitVec 32 := 1#32
  let v456 : BitVec 32 := Scalar.muli v455 c1_i32_462
  let v457 : BitVec 32 := Scalar.addi c0_i32_463 v456
  v457.toNat
def k0_dev17 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_468 : BitVec 32 := 1#32
  let v466 : BitVec 32 := Scalar.addi v2 c1_i32_468
  let c1_i32_469 : BitVec 32 := 1#32
  let v467 : BitVec 32 := Scalar.addi v466 c1_i32_469
  let c4_i32_470 : BitVec 32 := 4#32
  let v468 : BitVec 32 := Scalar.remsi v467 c4_i32_470
  let c1_i32_475 : BitVec 32 := 1#32
  let v469 : BitVec 32 := Scalar.muli v468 c1_i32_475
  let v470 : BitVec 32 := Scalar.addi c0_i32_476 v469
  v470.toNat
def k0_dev18 (d0 : Dev nD) : Nat :=
  let c0_i32_489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_481 : BitVec 32 := 1#32
  let v479 : BitVec 32 := Scalar.addi v2 c1_i32_481
  let c2_i32_482 : BitVec 32 := 2#32
  let v480 : BitVec 32 := Scalar.addi v479 c2_i32_482
  let c4_i32_483 : BitVec 32 := 4#32
  let v481 : BitVec 32 := Scalar.remsi v480 c4_i32_483
  let c1_i32_488 : BitVec 32 := 1#32
  let v482 : BitVec 32 := Scalar.muli v481 c1_i32_488
  let v483 : BitVec 32 := Scalar.addi c0_i32_489 v482
  v483.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv448" => some ((448⁻¹ : ℝ) : EReal)
  | _ => none
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.IdealCells.lean ====
/-
# The cells, the pieces and the values of the ring

The kernel runs on four devices. Each device's rows of the product go round the ring in two halves: the left
columns (the `A` half) travel to the left neighbour, the right columns (the `B` half) to the right one, in three
steps of two pieces each, and a last exchange shares every device's largest entry.

## The protocol

Semaphores of device `c`, by number:
* 2, 3: a copy of a row block of `x` into a slot of the x buffer; issued by `c`, waited for by `c`; twice each;
* 4 + 2 s + q: the source of `c`'s A transfer of step `s`, piece `q`; waited for by `c` at the end;
* 10 + 2 s + q: the landing on `c` of its right neighbour's A transfer of step `s`, piece `q`;
* 16 + 2 s + q, 22 + 2 s + q: the same for the B half, from the left neighbour;
* 28 + j: the source of `c`'s maximum sent to device `c + 1 + j`;
* 31 + j: the landing on `c` of the maximum of device `c + 3 - j`;
* the barrier: one unit from each of the three others. Device `c + 3`'s unit hands over its A landing buffer and
  slot 2 of its maxima, device `c + 2`'s hands over slot 1 of its maxima, device `c + 1`'s hands over its B landing
  buffer and slot 0 of its maxima.

A landing hands over the piece at the value sent; a source semaphore gives the piece sent back at some contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The ring of devices -/

set_option backward.proofsInPublic true in
/-- The device `k` places after `c`. -/
def off (k : ℕ) (c : Dev nD) : Dev nD := ⟨(c.val + k) % 4, Nat.mod_lt _ (by decide)⟩

/-- Going on by `k` places and then by as many as complete the circle returns to the start. -/
theorem off_off (k l : ℕ) (h : (k + l) % 4 = 0) (c : Dev nD) : off l (off k c) = c := by
  apply Fin.ext
  have := c.isLt
  show ((c.val + k) % 4 + l) % 4 = c.val
  have h4 : c.val < 4 := this
  omega

/-- Transfer or signal 1 of device `c` is addressed to the device one place after it. -/
theorem dev1_eq (c : Dev nD) : (⟨k0_dev1 c, k0_dev1_lt c⟩ : Dev nD) = off 1 c := Fin.ext (k0_dev1_eq c)
/-- Transfer or signal 2 of device `c` is addressed to the device two places after it. -/
theorem dev2_eq (c : Dev nD) : (⟨k0_dev2 c, k0_dev2_lt c⟩ : Dev nD) = off 2 c := Fin.ext (k0_dev2_eq c)
/-- Transfer or signal 3 of device `c` is addressed to the device three places after it. -/
theorem dev3_eq (c : Dev nD) : (⟨k0_dev3 c, k0_dev3_lt c⟩ : Dev nD) = off 3 c := Fin.ext (k0_dev3_eq c)
/-- Transfer or signal 4 of device `c` is addressed to the device three places after it. -/
theorem dev4_eq (c : Dev nD) : (⟨k0_dev4 c, k0_dev4_lt c⟩ : Dev nD) = off 3 c := Fin.ext (k0_dev4_eq c)
/-- Transfer or signal 5 of device `c` is addressed to the device three places after it. -/
theorem dev5_eq (c : Dev nD) : (⟨k0_dev5 c, k0_dev5_lt c⟩ : Dev nD) = off 3 c := Fin.ext (k0_dev5_eq c)
/-- Transfer or signal 6 of device `c` is addressed to the device one place after it. -/
theorem dev6_eq (c : Dev nD) : (⟨k0_dev6 c, k0_dev6_lt c⟩ : Dev nD) = off 1 c := Fin.ext (k0_dev6_eq c)
/-- Transfer or signal 7 of device `c` is addressed to the device one place after it. -/
theorem dev7_eq (c : Dev nD) : (⟨k0_dev7 c, k0_dev7_lt c⟩ : Dev nD) = off 1 c := Fin.ext (k0_dev7_eq c)
/-- Transfer or signal 8 of device `c` is addressed to the device three places after it. -/
theorem dev8_eq (c : Dev nD) : (⟨k0_dev8 c, k0_dev8_lt c⟩ : Dev nD) = off 3 c := Fin.ext (k0_dev8_eq c)
/-- Transfer or signal 9 of device `c` is addressed to the device one place after it. -/
theorem dev9_eq (c : Dev nD) : (⟨k0_dev9 c, k0_dev9_lt c⟩ : Dev nD) = off 1 c := Fin.ext (k0_dev9_eq c)
/-- Transfer or signal 10 of device `c` is addressed to the device three places after it. -/
theorem dev10_eq (c : Dev nD) : (⟨k0_dev10 c, k0_dev10_lt c⟩ : Dev nD) = off 3 c := Fin.ext (k0_dev10_eq c)
/-- Transfer or signal 11 of device `c` is addressed to the device one place after it. -/
theorem dev11_eq (c : Dev nD) : (⟨k0_dev11 c, k0_dev11_lt c⟩ : Dev nD) = off 1 c := Fin.ext (k0_dev11_eq c)
/-- Transfer or signal 12 of device `c` is addressed to the device three places after it. -/
theorem dev12_eq (c : Dev nD) : (⟨k0_dev12 c, k0_dev12_lt c⟩ : Dev nD) = off 3 c := Fin.ext (k0_dev12_eq c)
/-- Transfer or signal 13 of device `c` is addressed to the device one place after it. -/
theorem dev13_eq (c : Dev nD) : (⟨k0_dev13 c, k0_dev13_lt c⟩ : Dev nD) = off 1 c := Fin.ext (k0_dev13_eq c)
/-- Transfer or signal 14 of device `c` is addressed to the device three places after it. -/
theorem dev14_eq (c : Dev nD) : (⟨k0_dev14 c, k0_dev14_lt c⟩ : Dev nD) = off 3 c := Fin.ext (k0_dev14_eq c)
/-- Transfer or signal 15 of device `c` is addressed to the device one place after it. -/
theorem dev15_eq (c : Dev nD) : (⟨k0_dev15 c, k0_dev15_lt c⟩ : Dev nD) = off 1 c := Fin.ext (k0_dev15_eq c)
/-- Transfer or signal 16 of device `c` is addressed to the device one place after it. -/
theorem dev16_eq (c : Dev nD) : (⟨k0_dev16 c, k0_dev16_lt c⟩ : Dev nD) = off 1 c := Fin.ext (k0_dev16_eq c)
/-- Transfer or signal 17 of device `c` is addressed to the device two places after it. -/
theorem dev17_eq (c : Dev nD) : (⟨k0_dev17 c, k0_dev17_lt c⟩ : Dev nD) = off 2 c := Fin.ext (k0_dev17_eq c)
/-- Transfer or signal 18 of device `c` is addressed to the device three places after it. -/
theorem dev18_eq (c : Dev nD) : (⟨k0_dev18 c, k0_dev18_lt c⟩ : Dev nD) = off 3 c := Fin.ext (k0_dev18_eq c)

/-! ## The cells -/

/-- The barrier semaphore of collective 0. -/
abbrev barS : Sem sig := (SemArray.scalar (sig.barrier 0 rfl) : Sems sig S_).sem

/-- The kernel's own semaphores, numbers 2 to 33. -/
abbrev osem : Fin 32 → SemLoc sig := fun k => .dma ⟨k.val + 2, by have := k.isLt; show k.val + 2 < 34; omega⟩
/-- All the semaphores of the protocol: the own ones and, last, the barrier. -/
abbrev csem (k : Fin 33) : SemLoc sig := if h : k.val < 32 then osem ⟨k.val, h⟩ else .reg barS
/-- Semaphore `k` of the protocol on device `c`, as a pair. -/
abbrev kcell (ck : Dev nD × Fin 33) : GSem nD τ sig := ((ck.1 : Thread nD τ), csem ck.2)

/-! ## The pieces of the buffers -/

/-- Slot `i` of the x buffer lies inside the buffer. -/
theorem inb_x (i : Fin 2) : ∀ a, (![i.val, 0, 0] : Fin 3 → ℕ) a + S1x1024x1024.size a ≤ S2x1024x1024.size a := by
  revert i; decide
/-- Row half `q` of a stage lies inside the stage. -/
theorem inb_s (q : Fin 2) : ∀ a, (![512 * q.val, 0] : Fin 2 → ℕ) a + S512x1024.size a ≤ S1024x1024.size a := by
  revert q; decide
/-- Row half `q` of step `s` lies inside the landing buffer. -/
theorem inb_c (s : Fin 3) (q : Fin 2) :
    ∀ a, (![s.val, 512 * q.val, 0] : Fin 3 → ℕ) a + S1x512x1024.size a ≤ S3x1024x1024.size a := by
  revert s q; decide
/-- Slot `j` of the maxima lies inside their buffer. -/
theorem inb_m (j : Fin 4) : ∀ a, (![j.val, 0, 0] : Fin 3 → ℕ) a + S1x8x128.size a ≤ S4x8x128.size a := by
  revert j; decide

/-- Slot `i` of the x buffer. -/
abbrev xrect (i : Fin 2) : Rect S2x1024x1024 := Rect.unit (s := S2x1024x1024) ![i.val, 0, 0] S1x1024x1024.size (inb_x i)
/-- Row half `q` of a stage. -/
abbrev srect (q : Fin 2) : Rect S1024x1024 := Rect.unit (s := S1024x1024) ![512 * q.val, 0] S512x1024.size (inb_s q)
/-- Row half `q` of step `s` of a landing buffer. -/
abbrev crect (s : Fin 3) (q : Fin 2) : Rect S3x1024x1024 :=
  Rect.unit (s := S3x1024x1024) ![s.val, 512 * q.val, 0] S1x512x1024.size (inb_c s q)
/-- Slot `j` of the maxima. -/
abbrev mrect (j : Fin 4) : Rect S4x8x128 := Rect.unit (s := S4x8x128) ![j.val, 0, 0] S1x8x128.size (inb_m j)

/-- The x buffer, whole. -/
abbrev xM : Memref sig .tc .vmem S2x1024x1024 .f32 := Memref.whole cc0_scratch0
/-- The A stage, whole. -/
abbrev sAM : Memref sig .tc .vmem S1024x1024 .bf16 := Memref.whole cc0_scratch1
/-- The B stage, whole. -/
abbrev sBM : Memref sig .tc .vmem S1024x1024 .bf16 := Memref.whole cc0_scratch2
/-- The A landing buffer, whole. -/
abbrev cAM : Memref sig .tc .vmem S3x1024x1024 .bf16 := Memref.whole cc0_scratch3
/-- The B landing buffer, whole. -/
abbrev cBM : Memref sig .tc .vmem S3x1024x1024 .bf16 := Memref.whole cc0_scratch4
/-- The buffer of the maxima, whole. -/
abbrev mM : Memref sig .tc .vmem S4x8x128 .f32 := Memref.whole cc0_scratch5
/-- The rows of `x` a device holds, whole. -/
abbrev hM : Memref sig .tc .hbm S4096x1024 .f32 := Memref.whole main_arg0
/-- The staged weights, whole. -/
abbrev wM : Memref sig .tc .vmem S1024x2048 .f32 := Memref.whole cc0_stg0_0
/-- The staged result, whole. -/
abbrev oM : Memref sig .tc .vmem S1024x2048 .f32 := Memref.whole cc0_stg1_0

/-- Slot `i` of the x buffer. -/
abbrev xP (i : Fin 2) : Memref sig .tc .vmem S1x1024x1024 .f32 := xM.slice (xrect i) (fun _ => rfl)
/-- Row half `q` of the A stage. -/
abbrev sA (q : Fin 2) : Memref sig .tc .vmem S512x1024 .bf16 := sAM.slice (srect q) (fun _ => rfl)
/-- Row half `q` of the B stage. -/
abbrev sB (q : Fin 2) : Memref sig .tc .vmem S512x1024 .bf16 := sBM.slice (srect q) (fun _ => rfl)
/-- Row half `q` of step `s` of the A landing buffer. -/
abbrev cA (s : Fin 3) (q : Fin 2) : Memref sig .tc .vmem S1x512x1024 .bf16 := cAM.slice (crect s q) (fun _ => rfl)
/-- Row half `q` of step `s` of the B landing buffer. -/
abbrev cB (s : Fin 3) (q : Fin 2) : Memref sig .tc .vmem S1x512x1024 .bf16 := cBM.slice (crect s q) (fun _ => rfl)
/-- Slot `j` of the maxima. -/
abbrev mP (j : Fin 4) : Memref sig .tc .vmem S1x8x128 .f32 := mM.slice (mrect j) (fun _ => rfl)

/-- The same pieces with their leading axis of size one dropped, as the transfers name them. -/
abbrev xPs (i : Fin 2) : Memref sig .tc .vmem S1024x1024 .f32 := (xP i).squeeze S1024x1024 squeezes_S1x1024x1024_S1024x1024
/-- A piece of the A landing buffer without its leading axis. -/
abbrev cAs (s : Fin 3) (q : Fin 2) : Memref sig .tc .vmem S512x1024 .bf16 := (cA s q).squeeze S512x1024 squeezes_S1x512x1024_S512x1024
/-- A piece of the B landing buffer without its leading axis. -/
abbrev cBs (s : Fin 3) (q : Fin 2) : Memref sig .tc .vmem S512x1024 .bf16 := (cB s q).squeeze S512x1024 squeezes_S1x512x1024_S512x1024
/-- A slot of the maxima without its leading axis. -/
abbrev mPs (j : Fin 4) : Memref sig .tc .vmem S8x128 .f32 := (mP j).squeeze S8x128 squeezes_S1x8x128_S8x128

/-- The row blocks of `x` on device `c`, by how many places after `c` they belong to. -/
abbrev hrect1 (c : Dev nD) : Rect S4096x1024 := Rect.unit (s := S4096x1024) (k0_off1 c 1#32) S1024x1024.size (k0_off1_inb c 0)
/-- The rows of `x` that belong to the device two places after `c`. -/
abbrev hrect2 (c : Dev nD) : Rect S4096x1024 := Rect.unit (s := S4096x1024) (k0_off1 c 2#32) S1024x1024.size (k0_off1_inb c 1)
/-- The rows of `x` that belong to the device three places after `c`. -/
abbrev hrect3 (c : Dev nD) : Rect S4096x1024 := Rect.unit (s := S4096x1024) (k0_off1 c 3#32) S1024x1024.size (k0_off1_inb c 2)
/-- The rows of `x` that belong to `c` itself. -/
abbrev hrect0 (c : Dev nD) : Rect S4096x1024 := Rect.unit (s := S4096x1024) (k0_off2 c) S1024x1024.size (k0_off2_inb c)
/-- The piece of `x` on `c` with the rows of the next device. -/
abbrev h1 (c : Dev nD) : Memref sig .tc .hbm S1024x1024 .f32 := hM.slice (hrect1 c) (fun _ => rfl)
/-- The piece of `x` on `c` with the rows of the device two places on. -/
abbrev h2 (c : Dev nD) : Memref sig .tc .hbm S1024x1024 .f32 := hM.slice (hrect2 c) (fun _ => rfl)
/-- The piece of `x` on `c` with the rows of the device three places on. -/
abbrev h3 (c : Dev nD) : Memref sig .tc .hbm S1024x1024 .f32 := hM.slice (hrect3 c) (fun _ => rfl)
/-- The piece of `x` on `c` with the rows of `c` itself. -/
abbrev h0 (c : Dev nD) : Memref sig .tc .hbm S1024x1024 .f32 := hM.slice (hrect0 c) (fun _ => rfl)

/-! ## Dropping an axis of size one -/

/-- A function on a squeezed shape, read at the indices of the shape before. -/
def unsq {s s' : Shape} {α : Type} (h : s.Squeezes s') (x : s'.Idx → α) : s.Idx → α :=
  fun j => x ((Shape.reshapeEquiv h.numel_eq).symm j)

/-! ## The values -/

section Vals
variable (m : (ℓ : Loc nD τ sig) → Buf (Elt F) ℓ)

/-- The block of the weights on device `c`, as staged. -/
def wst (c : Dev nD) : (cc0_stg0_0 : Ref sig .tc).ty.Contents (Elt F) :=
  (win0_0.blk (0 : Fin 1)).view.read (Elt F) (m ((c : Thread nD τ).loc main_arg1))
/-- The rows of `x` on device `c`. -/
def xv (c : Dev nD) : (main_arg0 : Ref sig .tc).ty.Contents (Elt F) := m ((c : Thread nD τ).loc main_arg0)

/-- The left half of the columns. -/
abbrev wrectL : Rect S1024x2048 := Rect.unit (s := S1024x2048) ![0, 0] S1024x1024.size inb_S1024x2048_S1024x1024_0_0
/-- The right half of the columns. -/
abbrev wrectR : Rect S1024x2048 := Rect.unit (s := S1024x2048) ![0, 1024] S1024x1024.size inb_S1024x2048_S1024x1024_0_1024

/-- The left half of the weights, cast to bfloat16. -/
def wA (c : Dev nD) : FVec F S1024x1024 .bf16 := k0_pay1 (wM.view.readAt (Elt F) wrectL.toLoadRect (wst m c))
/-- The right half of the weights, cast to bfloat16. -/
def wB (c : Dev nD) : FVec F S1024x1024 .bf16 := k0_pay2 (wM.view.readAt (Elt F) wrectR.toLoadRect (wst m c))

/-- A row block of `x` as it is loaded from the x buffer. -/
def X1 (c : Dev nD) : S1x1024x1024.Idx → Elt F .f32 := unsq squeezes_S1x1024x1024_S1024x1024 ((h1 c).view.read (Elt F) (xv m c))
/-- The row block of the device two places on, as loaded. -/
def X2 (c : Dev nD) : S1x1024x1024.Idx → Elt F .f32 := unsq squeezes_S1x1024x1024_S1024x1024 ((h2 c).view.read (Elt F) (xv m c))
/-- The row block of the device three places on, as loaded. -/
def X3 (c : Dev nD) : S1x1024x1024.Idx → Elt F .f32 := unsq squeezes_S1x1024x1024_S1024x1024 ((h3 c).view.read (Elt F) (xv m c))
/-- The device's own row block, as loaded. -/
def X0 (c : Dev nD) : S1x1024x1024.Idx → Elt F .f32 := unsq squeezes_S1x1024x1024_S1024x1024 ((h0 c).view.read (Elt F) (xv m c))

/-- The two stages: the first partial products sent. -/
def stA (c : Dev nD) : Fin 2 → (S512x1024.Idx → Elt F .bf16)
  | 0 => k0_pay4 (wA m c) (k0_pay3 (X1 m c))
  | 1 => k0_pay5 (wA m c) (k0_pay3 (X1 m c))
/-- The B stage: the first partial product sent the other way round. -/
def stB (c : Dev nD) : Fin 2 → (S512x1024.Idx → Elt F .bf16)
  | 0 => k0_pay7 (wB m c) (X3 m c)
  | 1 => k0_pay8 (wB m c) (k0_pay6 (X3 m c))

/-- What lands on `c` at each step, and what it stores in its place (the landed sum with its own part added). -/
def LA0 (c : Dev nD) (q : Fin 2) : S1x512x1024.Idx → Elt F .bf16 := unsq squeezes_S1x512x1024_S512x1024 (stA m (off 1 c) q)
/-- What `c` stores in place of the first A landing, its own part added. -/
def SA0 (c : Dev nD) : Fin 2 → (S1x512x1024.Idx → Elt F .bf16)
  | 0 => k0_pay12 (wA m c) (X2 m c) (LA0 m c 0)
  | 1 => k0_pay14 (k0_pay10 (wA m c) (X2 m c)) (LA0 m c 1)
/-- The second A landing on `c`: what its neighbour stored at the first step. -/
def LA1 (c : Dev nD) (q : Fin 2) : S1x512x1024.Idx → Elt F .bf16 := SA0 m (off 1 c) q
/-- What `c` stores in place of the second A landing, its own part added. -/
def SA1 (c : Dev nD) : Fin 2 → (S1x512x1024.Idx → Elt F .bf16)
  | 0 => k0_pay18 (wA m c) (k0_pay6 (X3 m c)) (LA1 m c 0)
  | 1 => k0_pay20 (k0_pay16 (wA m c) (k0_pay6 (X3 m c))) (LA1 m c 1)
/-- The third A landing on `c`: what its neighbour stored at the second step. -/
def LA2 (c : Dev nD) (q : Fin 2) : S1x512x1024.Idx → Elt F .bf16 := SA1 m (off 1 c) q

/-- The first B landing on `c`. -/
def LB0 (c : Dev nD) (q : Fin 2) : S1x512x1024.Idx → Elt F .bf16 := unsq squeezes_S1x512x1024_S512x1024 (stB m (off 3 c) q)
/-- What `c` stores in place of the first B landing, its own part added. -/
def SB0 (c : Dev nD) : Fin 2 → (S1x512x1024.Idx → Elt F .bf16)
  | 0 => k0_pay13 (k0_pay11 (wB m c) (X2 m c)) (LB0 m c 0)
  | 1 => k0_pay15 (k0_pay11 (wB m c) (X2 m c)) (LB0 m c 1)
/-- The second B landing on `c`: what its neighbour stored at the first step. -/
def LB1 (c : Dev nD) (q : Fin 2) : S1x512x1024.Idx → Elt F .bf16 := SB0 m (off 3 c) q
/-- What `c` stores in place of the second B landing, its own part added. -/
def SB1 (c : Dev nD) : Fin 2 → (S1x512x1024.Idx → Elt F .bf16)
  | 0 => k0_pay19 (k0_pay17 (wB m c) (k0_pay3 (X1 m c))) (LB1 m c 0)
  | 1 => k0_pay21 (k0_pay17 (wB m c) (k0_pay3 (X1 m c))) (LB1 m c 1)
/-- The third B landing on `c`: what its neighbour stored at the second step. -/
def LB2 (c : Dev nD) (q : Fin 2) : S1x512x1024.Idx → Elt F .bf16 := SB1 m (off 3 c) q

/-- The last parts, `c`'s own rows, and the running maximum. -/
def v371 (c : Dev nD) : FVec F S1024x1024 .f32 := k0_pay23 (wA m c) (X0 m c)
/-- The device's own part, right columns. -/
def v372 (c : Dev nD) : FVec F S1024x1024 .f32 := k0_pay24 (wB m c) (X0 m c)
/-- The top half of the last A landing, widened. -/
def v383 (c : Dev nD) : FVec F S512x1024 .f32 := k0_pay25 (LA2 m c 0)
/-- The top half of the device's own part, left columns. -/
def v384 (c : Dev nD) : FVec F S512x1024 .f32 := k0_pay26 (wA m c) (X0 m c)
/-- The largest entry of the two top quadrants, from zero. -/
def v410 (c : Dev nD) : F .f32 := k0_pay29 (v372 m c) (v383 m c) (v384 m c) (LB2 m c 0)
/-- The largest entry with the bottom left quadrant too. -/
def v429 (c : Dev nD) : F .f32 := k0_pay31 (v371 m c) (v410 m c) (LA2 m c 1)
/-- The bottom right quadrant of the result before the scaling. -/
def v442 (c : Dev nD) : FVec F S512x1024 .f32 := k0_pay32 (v372 m c) (LB2 m c 1)
/-- The vector of `c`'s largest entry. -/
def am (c : Dev nD) : S1x8x128.Idx → Elt F .f32 := k0_pay33 (v429 m c) (v442 m c)
/-- What slot `j` of the maxima of `c` holds in the end. -/
def VM (c : Dev nD) (j : Fin 4) : S1x8x128.Idx → Elt F .f32 := am m (off (3 - j.val) c)

end Vals

end Cert.KernelIdeal.Ring

end
-- ==== Proof.IdealSched.lean ====
/-
# The schedule of the ring's cells

For every cell: its duties by round, the units of each, and what each hands over. Then what every device owes at
launch, in the order it pays, and the levels the waits are ordered by.
-/
module

public import proofs.«01_k».proof.Proof.IdealCells

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's copy and the ring's (duties named by `Fin 3`) -/

/-- The ghost state of the protocol. -/
abbrev UB : Type := URounds (GSem nD τ sig) (Fin 3)
/-- The ghost state of the pipeline and of the protocol together. -/
abbrev UU : Type := UR sig nD τ × UB

local notation "𝕄" => MT nD τ sig Unit (Elt F) ℕ UU ℕ

/-- Where the pipeline's ghost state sits. -/
abbrev EP : Emb (UR sig nD τ) (MT nD τ sig Unit (Elt F) ℕ UU ℕ) := embL
/-- Where the protocol's ghost state sits. -/
abbrev ER : Emb UB (MT nD τ sig Unit (Elt F) ℕ UU ℕ) := embR

/-! ## Units -/

/-- The units a transfer of a row block of `x`, of a landing piece, of a slot of the maxima credits. -/
def NX : ℕ := (xPs 0).view.dmaCredit
/-- The units of a transfer into a landing buffer. -/
def NC : ℕ := (cAs 0 0).view.dmaCredit
/-- The units of a transfer of a maximum. -/
def NM : ℕ := (mPs 0).view.dmaCredit
/-- A transfer of a row block credits something, -/
theorem NX_pos : 0 < NX := View.dmaCredit_pos _ (by decide)
/-- one into a landing buffer too, -/
theorem NC_pos : 0 < NC := View.dmaCredit_pos _ (by decide)
/-- and one of a maximum. -/
theorem NM_pos : 0 < NM := View.dmaCredit_pos _ (by decide)

/-- The units of one duty of a cell, by its semaphore, -/
def amt : SemLoc sig → ℕ
  | .reg _ => 1
  | .dma d => if d.val < 4 then NX else if d.val < 28 then NC else NM
/-- and the units a wait on it takes, by its place among the protocol's. -/
def nk (k : Fin 33) : ℕ := if k.val < 2 then NX else if k.val < 26 then NC else if k.val < 32 then NM else 3

/-- Every duty credits something. -/
theorem amt_pos (s : SemLoc sig) : 0 < amt s := by
  unfold amt
  split
  · exact Nat.one_pos
  · split
    · exact NX_pos
    · split
      · exact NC_pos
      · exact NM_pos

/-! ## What the duties hand over -/

/-- A piece held whole at some contents. -/
def any (c : Dev nD) {s : Shape} {e : EltTy} (M : Memref sig .tc .vmem s e) : sProp 𝕄 :=
  iprop(∃ X : s.Idx → Elt F e, owns (c : Thread nD τ) M fullShare X)

/-- It may be kept in an invariant. -/
instance any_storable (c : Dev nD) {s : Shape} {e : EltTy} (M : Memref sig .tc .vmem s e) :
    BI.Storable (upEmb : UEmb _ 𝕄) (any (F := F) c M) := by unfold any; infer_instance

/-- The six pieces of device `d`'s A landing buffer, and of its B one. -/
def piecesA (d : Dev nD) : sProp 𝕄 :=
  iprop(any d (cA 0 0) ∗ any d (cA 0 1) ∗ any d (cA 1 0) ∗ any d (cA 1 1) ∗ any d (cA 2 0) ∗ any d (cA 2 1))
/-- The six pieces of device `d`'s B landing buffer. -/
def piecesB (d : Dev nD) : sProp 𝕄 :=
  iprop(any d (cB 0 0) ∗ any d (cB 0 1) ∗ any d (cB 1 0) ∗ any d (cB 1 1) ∗ any d (cB 2 0) ∗ any d (cB 2 1))

/-- It may be kept in an invariant. -/
instance piecesA_storable (d : Dev nD) : BI.Storable (upEmb : UEmb _ 𝕄) (piecesA (F := F) d) := by unfold piecesA; infer_instance
/-- It may be kept in an invariant. -/
instance piecesB_storable (d : Dev nD) : BI.Storable (upEmb : UEmb _ 𝕄) (piecesB (F := F) d) := by unfold piecesB; infer_instance

/-- What the three barrier units hand over to `c`. -/
def barPay (c : Dev nD) : Fin 3 → sProp 𝕄
  | 0 => iprop(piecesA (off 3 c) ∗ any (off 3 c) (mP 2))
  | 1 => any (off 2 c) (mP 1)
  | 2 => iprop(piecesB (off 1 c) ∗ any (off 1 c) (mP 0))

/-- It may be kept in an invariant. -/
instance barPay_storable (c : Dev nD) (d : Fin 3) : BI.Storable (upEmb : UEmb _ 𝕄) (barPay (F := F) c d) := by
  unfold barPay; split <;> infer_instance

/-- The three shares of the own maximum that its three transfers read. -/
def shr : Fin 3 → PosShare TreeShare
  | 0 => fullShare.left
  | 1 => fullShare.right.left
  | 2 => fullShare.right.right

variable (m : (ℓ : Loc nD τ sig) → Buf (Elt F) ℓ)

/-- A row block of `x` on `c` held at its contents. -/
def rowAt (c : Dev nD) (M : Memref sig .tc .hbm S1024x1024 .f32) (X : S1024x1024.Idx → Elt F .f32) : sProp 𝕄 :=
  owns (c : Thread nD τ) M fullShare X
/-- It may be kept in an invariant. -/
instance rowAt_storable (c : Dev nD) (M : Memref sig .tc .hbm S1024x1024 .f32) (X : S1024x1024.Idx → Elt F .f32) :
    BI.Storable (upEmb : UEmb _ 𝕄) (rowAt c M X) := by unfold rowAt; infer_instance

/-- What a duty of DMA semaphore number `n` of `c` hands over, at round `r`. -/
def payD (c : Dev nD) (n r : ℕ) : sProp 𝕄 :=
  match n with
  | 2 => match r with
    | 0 => iprop(owns (c : Thread nD τ) (xP 0) fullShare (X1 m c) ∗ rowAt c (h1 c) ((h1 c).view.read (Elt F) (xv m c)))
    | _ => iprop(owns (c : Thread nD τ) (xP 0) fullShare (X2 m c) ∗ rowAt c (h2 c) ((h2 c).view.read (Elt F) (xv m c)))
  | 3 => match r with
    | 0 => iprop(owns (c : Thread nD τ) (xP 1) fullShare (X3 m c) ∗ rowAt c (h3 c) ((h3 c).view.read (Elt F) (xv m c)))
    | _ => iprop(owns (c : Thread nD τ) (xP 1) fullShare (X0 m c) ∗ rowAt c (h0 c) ((h0 c).view.read (Elt F) (xv m c)))
  | 4 => any c (sA 0) | 5 => any c (sA 1)
  | 6 => any c (cA 0 0) | 7 => any c (cA 0 1) | 8 => any c (cA 1 0) | 9 => any c (cA 1 1)
  | 10 => owns (c : Thread nD τ) (cA 0 0) fullShare (LA0 m c 0)
  | 11 => owns (c : Thread nD τ) (cA 0 1) fullShare (LA0 m c 1)
  | 12 => owns (c : Thread nD τ) (cA 1 0) fullShare (LA1 m c 0)
  | 13 => owns (c : Thread nD τ) (cA 1 1) fullShare (LA1 m c 1)
  | 14 => owns (c : Thread nD τ) (cA 2 0) fullShare (LA2 m c 0)
  | 15 => owns (c : Thread nD τ) (cA 2 1) fullShare (LA2 m c 1)
  | 16 => any c (sB 0) | 17 => any c (sB 1)
  | 18 => any c (cB 0 0) | 19 => any c (cB 0 1) | 20 => any c (cB 1 0) | 21 => any c (cB 1 1)
  | 22 => owns (c : Thread nD τ) (cB 0 0) fullShare (LB0 m c 0)
  | 23 => owns (c : Thread nD τ) (cB 0 1) fullShare (LB0 m c 1)
  | 24 => owns (c : Thread nD τ) (cB 1 0) fullShare (LB1 m c 0)
  | 25 => owns (c : Thread nD τ) (cB 1 1) fullShare (LB1 m c 1)
  | 26 => owns (c : Thread nD τ) (cB 2 0) fullShare (LB2 m c 0)
  | 27 => owns (c : Thread nD τ) (cB 2 1) fullShare (LB2 m c 1)
  | 28 => owns (c : Thread nD τ) (mP 3) (shr 0) (am m c)
  | 29 => owns (c : Thread nD τ) (mP 3) (shr 1) (am m c)
  | 30 => owns (c : Thread nD τ) (mP 3) (shr 2) (am m c)
  | 31 => owns (c : Thread nD τ) (mP 0) fullShare (VM m c 0)
  | 32 => owns (c : Thread nD τ) (mP 1) fullShare (VM m c 1)
  | 33 => owns (c : Thread nD τ) (mP 2) fullShare (VM m c 2)
  | _ => iprop(emp)

/-- It may be kept in an invariant. -/
instance payD_storable (c : Dev nD) (n r : ℕ) : BI.Storable (upEmb : UEmb _ 𝕄) (payD m c n r) := by
  unfold payD
  (repeat' split) <;> infer_instance

/-- What a duty of a semaphore of `c` hands over. -/
def payS (c : Dev nD) (s : SemLoc sig) (r : ℕ) (d : Fin 3) : sProp 𝕄 :=
  match s with
  | .reg _ => barPay c d
  | .dma n => payD m c n.val r

/-- The duties of a cell, by its semaphore. -/
def dut (s : SemLoc sig) (r : ℕ) : Finset (Fin 3) :=
  match s with
  | .reg s => if r = 0 ∧ s = barS then Finset.univ else ∅
  | .dma n => if n.val < 2 then ∅ else if n.val < 4 then (if r < 2 then {0} else ∅) else if r = 0 then {0} else ∅

/-- The schedule. -/
def ringRd : Rounds.Schedule (GSem nD τ sig) (Fin 3) 𝕄 where
  duties g r := if g.1.2 = .tc then dut g.2 r else ∅
  unitless _ := False
  amount g _ _ := amt g.2
  payload g r d := payS m g.1.1 g.2 r d
  amount_pos g _ _ _ := amt_pos g.2

/-- It may be kept in an invariant. -/
instance ringRd_payload_storable (g : GSem nD τ sig) (r : ℕ) (d : Fin 3) :
    BI.Storable (upEmb : UEmb _ 𝕄) ((ringRd (F := F) m).payload g r d) := by
  show BI.Storable upEmb (payS m g.1.1 g.2 r d)
  unfold payS
  split <;> infer_instance

/-! ## The schedule at the protocol's cells -/

/-- The cells of the x buffer have one duty in each of rounds 0 and 1; -/
theorem dut_x : ∀ k : Fin 33, k.val < 2 → ∀ r : Fin 2, dut (csem k) r.val = {0} := by decide
/-- every own cell has one in round 0; -/
theorem dut_own : ∀ k : Fin 33, k.val < 32 → dut (csem k) 0 = {0} := by decide
/-- the barrier has three. -/
theorem dut_bar : dut (csem 32) 0 = Finset.univ := by decide

omit [FloatOps F] [Named F] in
/-- After round 1 no cell has a duty; -/
theorem dut_later (s : SemLoc sig) (r : ℕ) (h : 2 ≤ r) : dut s r = ∅ := by
  unfold dut
  split
  · rw [if_neg (fun h' => by omega)]
  · rw [if_neg (show ¬ r < 2 by omega), if_neg (show ¬ r = 0 by omega)]
    split
    · rfl
    · split <;> rfl
/-- after round 0 only those of the x buffer have. -/
theorem dut_once (k : Fin 33) (hk : 2 ≤ k.val) (r : ℕ) (h : 1 ≤ r) : dut (csem k) r = ∅ := by
  unfold csem
  split
  · unfold dut
    show (if k.val + 2 < 2 then _ else if k.val + 2 < 4 then _ else _) = _
    rw [if_neg (by omega), if_neg (by omega), if_neg (by omega)]
  · unfold dut
    show (if _ then _ else _) = _
    rw [if_neg (fun h' => by omega)]

/-- At an own cell one duty credits what one wait takes; -/
theorem amt_own (k : Fin 33) (hk : k.val < 32) : amt (csem k) = nk k := by
  unfold csem
  rw [dif_pos hk]
  unfold amt nk
  show (if k.val + 2 < 4 then _ else if k.val + 2 < 28 then _ else _) = _
  have := k.isLt
  split_ifs <;> first | rfl | omega

/-- at the barrier a duty credits one. -/
theorem amt_bar : amt (csem 32) = 1 := rfl

section Sched
variable (c : Dev nD)

/-- The duties of the schedule at a cell, -/
theorem duties_eq (k : Fin 33) (r : ℕ) : (ringRd (F := F) m).duties (kcell (c, k)) r = dut (csem k) r := by
  dsimp only [ringRd]; exact if_pos rfl
/-- their units, -/
theorem amount_eq (k : Fin 33) (r : ℕ) (d : Fin 3) : (ringRd (F := F) m).amount (kcell (c, k)) r d = amt (csem k) := rfl
/-- and what they hand over. -/
theorem payload_eq (k : Fin 33) (r : ℕ) (d : Fin 3) : (ringRd (F := F) m).payload (kcell (c, k)) r d = payS m c (csem k) r d := rfl

/-- A round with the one duty `0` expects the units of one wait; -/
theorem expect_own (k : Fin 33) (hk : k.val < 32) (r : ℕ) (hd : dut (csem k) r = {0}) :
    (ringRd (F := F) m).expect (kcell (c, k)) r = nk k := by
  unfold Schedule.expect Schedule.amountOf
  rw [duties_eq, hd, Finset.sum_singleton, amount_eq, amt_own k hk]
/-- the barrier's three. -/
theorem expect_bar : (ringRd (F := F) m).expect (kcell (c, 32)) 0 = 3 := by
  unfold Schedule.expect Schedule.amountOf
  rw [duties_eq, dut_bar, Finset.sum_congr rfl fun d _ => (amount_eq m c 32 0 d).trans amt_bar, Finset.sum_const, Finset.card_univ,
    Fintype.card_fin, smul_eq_mul]

/-- All that the one duty of a round hands over; -/
theorem rest_own (k : Fin 33) (r : ℕ) (hd : dut (csem k) r = {0}) :
    bigSep ((ringRd (F := F) m).duties (kcell (c, k)) r \ ∅) (fun d => (ringRd (F := F) m).payload (kcell (c, k)) r d) = payS m c (csem k) r 0 := by
  rw [Finset.sdiff_empty, duties_eq, hd, bigSep_singleton, payload_eq]
/-- all that the barrier's three hand over. -/
theorem rest_bar :
    bigSep ((ringRd (F := F) m).duties (kcell (c, 32)) 0 \ ∅) (fun d => (ringRd (F := F) m).payload (kcell (c, 32)) 0 d)
      = iprop(barPay c 0 ∗ barPay c 1 ∗ barPay c 2) := by
  rw [Finset.sdiff_empty, duties_eq, dut_bar, bigSep_univ_eq_bigSepL [0, 1, 2] (by decide) (by decide)]
  rfl

end Sched

/-! ## What each core owes at launch; the levels -/

/-- The tallies of a list of dues, one unit at a barrier cell, a transfer's units elsewhere. -/
def ownTally (p : Dev nD × Fin 33) : CellTallies nD τ sig Unit := tallyAt (kcell p) () (amt (csem p.2))
/-- The tallies of a list of dues together. -/
def Ol : List (Dev nD × Fin 33) → CellTallies nD τ sig Unit
  | [] => 0
  | p :: l => Ol l + ownTally p

/-- What device `c` owes, in the order it pays: the three barrier units, the twelve ring landings, the three maxima. -/
def dues (c : Dev nD) : List (Dev nD × Fin 33) :=
  [(off 1 c, 32), (off 2 c, 32), (off 3 c, 32),
   (off 3 c, 8), (off 3 c, 9), (off 1 c, 20), (off 1 c, 21),
   (off 3 c, 10), (off 1 c, 22), (off 3 c, 11), (off 1 c, 23),
   (off 3 c, 12), (off 1 c, 24), (off 3 c, 13), (off 1 c, 25),
   (off 1 c, 29), (off 2 c, 30), (off 3 c, 31)]

/-- The cells paid, by their place among the protocol's: the same on every device. -/
def dueK : List (Fin 33) := [32, 32, 32, 8, 9, 20, 21, 10, 22, 11, 23, 12, 24, 13, 25, 29, 30, 31]
/-- The cells of the dues are the list above. -/
theorem dues_snd (c : Dev nD) : (dues c).map Prod.snd = dueK := rfl
/-- So a property of the places still to be paid is decided on the one list. -/
theorem all_dues (c : Dev nD) (i : ℕ) (p : Fin 33 → Bool) (h : ((dueK.drop i).all p) = true) :
    (((dues c).drop i).all fun x => p x.2) = true := by
  rw [← dues_snd c, ← List.map_drop, List.all_map] at h; exact h

/-- What device `c` owes at launch. -/
def O₀ (c : Dev nD) : CellTallies nD τ sig Unit := Ol (dues c)

/-- The cells that have levels: those of the cores that run the kernel. -/
def L (g : GSem nD τ sig) : Finset Unit := if g.1.2 = .tc then {()} else ∅
/-- The level of a semaphore: the barrier 1, the landings of step `s` 2 + s, the landings of the maxima 5, others 0. -/
def lvS : SemLoc sig → ℕ
  | .reg _ => 1
  | .dma n => if n.val < 10 then 0 else if n.val < 16 then 2 + (n.val - 10) / 2 else if n.val < 22 then 0
      else if n.val < 28 then 2 + (n.val - 22) / 2 else if n.val < 31 then 0 else 5
/-- The level of a cell. -/
def lv (g : GSem nD τ sig) (_ : Unit) : ℕ := lvS g.2
/-- The same by the place among the protocol's cells. -/
def lvK (k : Fin 33) : ℕ := lvS (csem k)

/-- No other core has levels. -/
theorem L_of_ne (g : GSem nD τ sig) (h : g.1.2 ≠ .tc) : L g = ∅ := if_neg h
/-- Every cell of a device has one. -/
theorem L_tc (c : Dev nD) (sm : SemLoc sig) : L ((c : Thread nD τ), sm) = {()} := if_pos rfl

/-- Where something is owed, the list has the cell. -/
theorem Ol_pos : ∀ (l : List (Dev nD × Fin 33)) {g : GSem nD τ sig} {u : Unit}, 0 < Ol l g u → ∃ p ∈ l, g = kcell p
  | [], g, u, h => absurd h (Nat.lt_irrefl 0)
  | p :: l, g, u, h => by
    unfold Ol ownTally at h
    rw [Pi.add_apply, Finsupp.add_apply, tallyAt_apply] at h
    by_cases hp : g = kcell p ∧ u = ()
    · exact ⟨p, List.mem_cons_self, hp.1⟩
    · rw [if_neg hp, Nat.add_zero] at h
      obtain ⟨p', hp', e⟩ := Ol_pos l h
      exact ⟨p', List.mem_cons_of_mem _ hp', e⟩

omit [FloatOps F] [Named F] in
/-- A wait on a semaphore below every level still owed is allowed. -/
theorem mayWait_of (c : Dev nD) (sm : SemLoc sig) (n : ℕ) (hn : lvS sm = n) (l : List (Dev nD × Fin 33))
    (hl : (l.all fun p => decide (n < lvK p.2)) = true) :
    (levAts L lv : sProp 𝕄) ⊢ MayWait (c : Thread nD τ) sm () (Ol l) :=
  MayOwe.of_cut (L := L) (lev := lv) n (fun p hp => by rw [Finset.mem_singleton.mp hp, L_tc]; exact Finset.mem_singleton_self _)
    (fun g u hg => by obtain ⟨p, -, rfl⟩ := Ol_pos l hg; exact Finset.mem_singleton_self _)
    (fun p hp => by rw [Finset.mem_singleton.mp hp]; exact hn.le)
    (fun g u hg => by
      obtain ⟨p, hp, rfl⟩ := Ol_pos l hg
      exact of_decide_eq_true (List.all_eq_true.mp hl p hp))

end Cert.KernelIdeal.Ring

end
-- ==== Proof.IdealRules.lean ====
/-
# The steps of the ring, one rule per kind of effect

The library's rules restated at the protocol's cells, with what is persistent (the cells' invariants, the marks that
round 0 is reached, the levels) kept in one assertion, and pieces of buffers held by the values they read.
-/
module

public import proofs.«01_k».proof.Proof.IdealSched

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- No variants: the program has no loops to measure. -/
abbrev 𝒱₀ : Variants := Variants.none

/-! ## Owning through a squeeze -/

omit [FloatOps F] [Named F] in
/-- A squeezed piece owned at `X` is the piece owned at `X` read at its own indices. -/
theorem owns_squeeze (c : Dev nD) {sp : Space} {s s' : Shape} {e : EltTy} (M : Memref sig .tc sp s e) (h : s.Squeezes s')
    (q : PosShare TreeShare) (X : s'.Idx → Elt F e) :
    (owns (c : Thread nD τ) (M.squeeze s' h) q X : sProp 𝕄) = owns (c : Thread nD τ) M q (unsq h X) := by
  unfold owns
  have hset : (M.squeeze s' h).view.set = M.view.set := View.set_reshape (v := M.view) h.numel_eq
  have hread (f : M.view.ty.Contents (Elt F)) : (M.squeeze s' h).view.read (Elt F) f = X ↔ M.view.read (Elt F) f = unsq h X := by
    constructor
    · intro hX
      funext j
      have := congrFun hX ((Shape.reshapeEquiv h.numel_eq).symm j)
      unfold unsq
      rw [← this]
      show M.view.read (Elt F) f j = M.view.read (Elt F) f (Shape.reshapeEquiv h.numel_eq ((Shape.reshapeEquiv h.numel_eq).symm j))
      rw [Equiv.apply_symm_apply]
    · intro hX
      funext j
      have := congrFun hX (Shape.reshapeEquiv h.numel_eq j)
      unfold unsq at this
      rw [Equiv.symm_apply_apply] at this
      rw [← this]
      rfl
  rw [hset]
  have h₁ : iprop(∃ f, ⌜(M.squeeze s' h).view.read (Elt F) f = X⌝ ∗ ((M.squeeze s' h).view.loc (c : Thread nD τ) ↦[M.view.set]{q} f))
      ⊢ (iprop(∃ f, ⌜M.view.read (Elt F) f = unsq h X⌝ ∗ (M.view.loc (c : Thread nD τ) ↦[M.view.set]{q} f)) : sProp 𝕄) := by
    iintro ⟨%f, %hf, H⟩
    iexists f
    isplitr; · ipureintro; exact (hread f).mp hf
    iexact H
  have h₂ : iprop(∃ f, ⌜M.view.read (Elt F) f = unsq h X⌝ ∗ (M.view.loc (c : Thread nD τ) ↦[M.view.set]{q} f))
      ⊢ (iprop(∃ f, ⌜(M.squeeze s' h).view.read (Elt F) f = X⌝ ∗ ((M.squeeze s' h).view.loc (c : Thread nD τ) ↦[M.view.set]{q} f)) : sProp 𝕄) := by
    iintro ⟨%f, %hf, H⟩
    iexists f
    isplitr; · ipureintro; exact (hread f).mpr hf
    iexact H
  exact BI.equiv_iff.mp ⟨h₁, h₂⟩

omit [FloatOps F] [Named F] in
/-- Squeezing twice the same way and back: a value read through a squeeze of a piece is the piece's. -/
theorem unsq_sq {s s' : Shape} {α : Type} (h : s.Squeezes s') (x : s.Idx → α) :
    unsq h (fun j => x (Shape.reshapeEquiv h.numel_eq j)) = x := by
  funext j; unfold unsq; exact congrArg x (Equiv.apply_symm_apply _ _)

omit [FloatOps F] [Named F] in
/-- A piece owned at `x` is its squeeze owned at `x` read at the squeezed indices. -/
theorem owns_squeeze' (c : Dev nD) {sp : Space} {s s' : Shape} {e : EltTy} (M : Memref sig .tc sp s e) (h : s.Squeezes s')
    (q : PosShare TreeShare) (x : s.Idx → Elt F e) :
    (owns (c : Thread nD τ) M q x : sProp 𝕄) = owns (c : Thread nD τ) (M.squeeze s' h) q (fun j => x (Shape.reshapeEquiv h.numel_eq j)) := by
  rw [owns_squeeze, unsq_sq]

/-! ## What is persistent -/

variable (m : (ℓ : Loc nD τ sig) → Buf (Elt F) ℓ)

/-- Every cell's invariant, the mark that its round 0 is reached, and the levels. -/
def records (K : Dev nD × Fin 33 → ℕ) : sProp 𝕄 :=
  iprop((bigSep Finset.univ fun ck : Dev nD × Fin 33 => cellInv ER (ringRd m) (K ck) (kcell ck))
    ∗ bigSep Finset.univ fun ck : Dev nD × Fin 33 => reached ER (kcell ck) 0)

/-- The records may be used again and again. -/
instance records_persistent (K : Dev nD × Fin 33 → ℕ) : BI.Persistent (records m K) := by unfold records; infer_instance

omit [FloatOps F] [Named F] in
/-- The mark of one cell, out of all the marks. -/
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

/-- The invariant of one cell, out of all the invariants. -/
theorem inv_at (K : Dev nD × Fin 33 → ℕ) (ck : Dev nD × Fin 33) :
    (bigSep Finset.univ fun ck : Dev nD × Fin 33 => (cellInv ER (ringRd m) (K ck) (kcell ck) : sProp 𝕄)) ⊢ cellInv ER (ringRd m) (K ck) (kcell ck) :=
  bigSep_elim (Finset.mem_univ ck)

/-- The records hold the invariant of every cell, -/
theorem rec_inv (K : Dev nD × Fin 33 → ℕ) (ck : Dev nD × Fin 33) : records m K ⊢ cellInv ER (ringRd m) (K ck) (kcell ck) := by
  unfold records
  iintro ⟨H, -⟩
  iapply (inv_at m K ck); iexact H
/-- and the mark that its round 0 is reached. -/
theorem rec_reached (K : Dev nD × Fin 33 → ℕ) (ck : Dev nD × Fin 33) : records m K ⊢ reached ER (kcell ck) 0 := by
  unfold records
  iintro ⟨-, H⟩
  iapply (reached_at (F := F) ck); iexact H

/-- What device `c` still owes, the waits it may have made forgotten. -/
def ow (c : Dev nD) (l : List (Dev nD × Fin 33)) : sProp 𝕄 := iprop(∃ W, owes (c : Thread nD τ) (Ol l) W)

/-- The dues of `c` after its first `i` payments. -/
abbrev owN (c : Dev nD) (i : ℕ) : sProp 𝕄 := ow c ((dues c).drop i)

/-- A duty's token and a position, at the protocol's cells. -/
abbrev tok (p : Dev nD × Fin 33) (r : ℕ) (d : Fin 3) : sProp 𝕄 := dutyTok ER (kcell p) r d
/-- The position at a cell at the start of round `r`. -/
abbrev pos (p : Dev nD × Fin 33) (r : ℕ) : sProp 𝕄 := atPos ER (kcell p) r ∅ 0
/-- The units of one wait at a cell. -/
abbrev crd (p : Dev nD × Fin 33) : sProp 𝕄 := cred (tallyAt (kcell p) () (nk p.2))

section Steps

variable (K : Dev nD × Fin 33 → ℕ)

/-- The weakest precondition of a program on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The end of a program. -/
theorem ret_step {α : Type} {Q : α → sProp 𝕄} (c : Dev nD) (a : α) : Q a ⊢ wpc c (.ret a) Q := by
  unfold wpc; rw [wp_ret]
  iintro H
  imodintro; iexact H

/-- Closing a cell all of whose rounds are done. -/
theorem close_step (p : Dev nD × Fin 33) (R : ℕ) (hR : ∀ r, R ≤ r → dut (csem p.2) r = ∅) :
    iprop(records m K ∗ pos p R) ⊢ (|={Set.univ}=> semVal (kcell p) 0 : sProp 𝕄) := by
  iintro ⟨#HR, Hp⟩
  iapply (Rounds.cell_close ER (ringRd m) (Set.mem_univ (K p)) (fun h => h) (R := R) (fun r hr => (duties_eq m p.1 p.2 r).trans (hR r hr)))
  isplitr; · iapply (rec_inv m K p); iexact HR
  iexact Hp

/-- Paying one barrier unit with its payload. -/
theorem signal_step (c n t : Dev nD) (hn : n = t) (d : Fin 3) {s : Sem sig} (hs : s = barS) (i : ℕ)
    (hi : (dues c).drop i = (t, 32) :: (dues c).drop (i + 1)) {a : ℕ} (ha : a = 1) {α : Type} {Q : α → sProp 𝕄} {k : PUnit → Prog (TpuEff nD τ sig (Elt F) Λ₀ .tc) α} :
    iprop(records m K ∗ owN c i ∗ tok (t, 32) 0 d ∗ barPay t d)
      ⊢ iprop((owN c (i + 1) -∗ wpc c (k ⟨⟩) Q) -∗ wpc c (.op (.semSignal (n : Thread nD τ) s a) k) Q) := by
  subst hn; subst hs; subst ha
  unfold owN; rw [hi]; generalize (dues c).drop (i + 1) = l; unfold ow
  iintro ⟨#HR, ⟨%W, HO⟩, Ht, Hp⟩ Hk
  iapply (Rounds.wp_signal 𝒱₀ ER (ringRd m) (c : Thread nD τ) none (dst := (n : Thread nD τ)) (κ := K (n, 32))
      (r := 0) (d := d) (by rw [show ((n : Thread nD τ), SemLoc.reg barS) = kcell (n, 32) from rfl, duties_eq, dut_bar]; exact Finset.mem_univ _) rfl () (Ol l) rfl) $$ [HO Ht Hp]
  · isplitr; · iapply (rec_inv m K (n, 32)); iexact HR
    isplitl [HO]; · iexact HO
    isplitl [Ht]; · iexact Ht
    isplitl [Hp]; · rw [show (ringRd m).payload ((n : Thread nD τ), SemLoc.reg barS) 0 d = barPay n d from rfl]; iexact Hp
    iapply (rec_reached m K (n, 32)); iexact HR
  iintro HO
  iapply Hk
  iexists W; iexact HO

/-- Waiting for the barrier's three units: what they hand over. -/
theorem barrier_step (c : Dev nD) {s : Sem sig} (hs : s = barS) (i : ℕ)
    (hl : ((dueK.drop i).all fun k => decide (1 < lvK k)) = true)
    {a : ℕ} (ha : a = 3) {α : Type} {Q : α → sProp 𝕄} {k : PUnit → Prog (TpuEff nD τ sig (Elt F) Λ₀ .tc) α} :
    iprop(records m K ∗ levAts L lv ∗ owN c i ∗ pos (c, 32) 0 ∗ crd (c, 32))
      ⊢ iprop(((owN c i ∗ semVal (kcell (c, 32)) 0 ∗ barPay c 0 ∗ barPay c 1 ∗ barPay c 2) -∗ wpc c (k ⟨⟩) Q)
          -∗ wpc c (.op (.semWait s a) k) Q) := by
  subst hs; subst ha
  unfold owN; replace hl := all_dues c i _ hl; generalize (dues c).drop i = l at hl ⊢; unfold ow
  iintro ⟨#HR, #HL, ⟨%W, HO⟩, Hp, Hc⟩ Hk
  iapply (Rounds.wp_wait_rest_token 𝒱₀ ER (ringRd m) (c : Thread nD τ) none (κ := K (c, 32))
      (wpE_semWait_eq 𝒱₀ (c : Thread nD τ) none Set.univ) (Set.mem_univ _) () (O := Ol l) (W := W) (R := 0) (m := 0) (T := ∅)
      (by rw [show ((c : Thread nD τ), SemLoc.reg barS) = kcell (c, 32) from rfl, expect_bar])) $$ [Hc HO Hp]
  · isplitr; · iapply (rec_inv m K (c, 32)); iexact HR
    isplitl [Hc]; · iexact Hc
    isplitl [HO]; · iexact HO
    isplitr; · iapply (mayWait_of (F := F) c (.reg barS) 1 rfl l hl); iexact HL
    iexact Hp
  rw [show ((c : Thread nD τ), SemLoc.reg barS) = kcell (c, 32) from rfl, rest_bar m c]
  iintro ⟨HO, Hp, -, Hpay⟩
  imod (close_step m K (c, 32) (0 + 1) (dut_once 32 (by decide))) $$ [Hp] with Hz
  · isplitr; · iexact HR
    iexact Hp
  iapply Hk
  isplitl [HO]; · iexists _; iexact HO
  isplitl [Hz]; · iexact Hz
  iexact Hpay

/-- Waiting on an own cell's round: its payload, and the next round. -/
theorem wait_step (c : Dev nD) (j : Fin 33) (hj : j.val < 32) (r : ℕ) (hd : dut (csem j) r = {0}) (i : ℕ)
    (hl : ((dueK.drop i).all fun k => decide (lvK j < lvK k)) = true)
    {sem : DmaSem sig} (hs : SemLoc.dma sem = csem j) {sp sp' : Space} {s s' : Shape} {e e' : EltTy} {κ' : Kind}
    {src : Memref sig .tc sp' s' e'} {dst : Memref sig κ' sp s e} {hsrc : src.view.WordExact} {hdst : dst.view.WordExact}
    (hN : dst.view.dmaCredit = nk j) {P : sProp 𝕄} (hP : payS m c (csem j) r 0 = P) {α : Type} {Q : α → sProp 𝕄} {k : PUnit → Prog (TpuEff nD τ sig (Elt F) Λ₀ .tc) α} :
    iprop(records m K ∗ levAts L lv ∗ owN c i ∗ pos (c, j) r ∗ crd (c, j))
      ⊢ iprop(((owN c i ∗ pos (c, j) (r + 1) ∗ reached ER (kcell (c, j)) (r + 1) ∗ P) -∗ wpc c (k ⟨⟩) Q)
          -∗ wpc c (.op (.waitDma2 sem src dst hsrc hdst) k) Q) := by
  subst hP
  unfold owN; replace hl := all_dues c i _ hl; generalize (dues c).drop i = l at hl ⊢; unfold ow
  iintro ⟨#HR, #HL, ⟨%W, HO⟩, Hp, Hc⟩ Hk
  have hcell : ((c : Thread nD τ), SemLoc.dma sem) = kcell (c, j) := by rw [hs]
  iapply (Rounds.wp_wait_rest_token 𝒱₀ ER (ringRd m) (c : Thread nD τ) none (κ := K (c, j)) (sm := .dma sem) (k' := dst.view.dmaCredit)
      (wpE_waitDma2_eq 𝒱₀ (c : Thread nD τ) none Set.univ) (Set.mem_univ _) () (O := Ol l) (W := W) (R := r) (m := 0) (T := ∅)
      (by rw [hcell, expect_own m c j hj r hd, hN, Nat.zero_add])) $$ [Hc HO Hp]
  · rw [hcell, hN]
    isplitr; · iapply (rec_inv m K (c, j)); iexact HR
    isplitl [Hc]; · iexact Hc
    isplitl [HO]; · iexact HO
    isplitr; · iapply (mayWait_of (F := F) c (.dma sem) (lvK j) (by rw [hs]; rfl) l hl); iexact HL
    iexact Hp
  rw [hcell, rest_own m c j r hd]
  iintro ⟨HO, Hp, Hr, Hpay⟩
  iapply Hk
  isplitl [HO]; · iexists _; iexact HO
  isplitl [Hp]; · iexact Hp
  isplitl [Hr]; · iexact Hr
  iexact Hpay

/-- Waiting on an own cell's last round: its payload, and its counter at zero. -/
theorem wait_close (c : Dev nD) (j : Fin 33) (hj : j.val < 32) (r : ℕ) (hd : dut (csem j) r = {0}) (hR : ∀ r', r + 1 ≤ r' → dut (csem j) r' = ∅)
    (i : ℕ) (hl : ((dueK.drop i).all fun k => decide (lvK j < lvK k)) = true)
    {sem : DmaSem sig} (hs : SemLoc.dma sem = csem j) {sp sp' : Space} {s s' : Shape} {e e' : EltTy} {κ' : Kind}
    {src : Memref sig .tc sp' s' e'} {dst : Memref sig κ' sp s e} {hsrc : src.view.WordExact} {hdst : dst.view.WordExact}
    (hN : dst.view.dmaCredit = nk j) {P : sProp 𝕄} (hP : payS m c (csem j) r 0 = P) {α : Type} {Q : α → sProp 𝕄} {k : PUnit → Prog (TpuEff nD τ sig (Elt F) Λ₀ .tc) α} :
    iprop(records m K ∗ levAts L lv ∗ owN c i ∗ pos (c, j) r ∗ crd (c, j))
      ⊢ iprop(((owN c i ∗ semVal (kcell (c, j)) 0 ∗ P) -∗ wpc c (k ⟨⟩) Q)
          -∗ wpc c (.op (.waitDma2 sem src dst hsrc hdst) k) Q) := by
  iintro ⟨#HR, #HL, HO, Hp, Hc⟩ Hk
  iapply (wait_step m K c j hj r hd i hl hs hN hP) $$ [HO Hp Hc]
  · isplitr; · iexact HR
    isplitr; · iexact HL
    isplitl [HO]; · iexact HO
    isplitl [Hp] <;> iassumption
  iintro ⟨HO, Hp, -, Hpay⟩
  imod (close_step m K (c, j) (r + 1) hR) $$ [Hp] with Hz
  · isplitr; · iexact HR
    iexact Hp
  iapply Hk
  isplitl [HO]; · iexact HO
  isplitl [Hz] <;> iassumption

/-- A copy of a row block of `x` into a slot of the x buffer. -/
theorem copy_step (c : Dev nD) (j : Fin 33) (hj : j.val < 32) (r : ℕ) (hd : dut (csem j) r = {0})
    {sem : DmaSem sig} (hs : SemLoc.dma sem = csem j) {sp sp' : Space} {s : Shape} {e : EltTy}
    {src : Memref sig .tc sp s e} {dst : Memref sig .tc sp' s e} {hsrc : src.view.WordExact} {hdst : dst.view.WordExact}
    {hsem : DmaTarget.Typed (nD := nD) (τ := τ) (p := .tc) sp (.dma sem) (.here dst)}
    (hN : dst.view.dmaCredit = nk j) {X Y : s.Idx → Elt F e}
    (hpay : iprop(owns (c : Thread nD τ) dst fullShare X ∗ owns (c : Thread nD τ) src fullShare X) ⊢ payS m c (csem j) r 0)
    {α : Type} {Q : α → sProp 𝕄} {k : PUnit → Prog (TpuEff nD τ sig (Elt F) Λ₀ .tc) α} :
    iprop(records m K ∗ reached ER (kcell (c, j)) r ∗ tok (c, j) r 0 ∗ owns (c : Thread nD τ) src fullShare X ∗ owns (c : Thread nD τ) dst fullShare Y)
      ⊢ iprop((crd (c, j) -∗ wpc c (k ⟨⟩) Q) -∗ wpc c (.op (.enqueueDma src (.here dst) (.dma sem) hsrc hdst hsem) k) Q) := by
  unfold owns
  iintro ⟨#HR, #Hr, Ht, ⟨%fs, %hfs, Hs⟩, ⟨%fd, %hfd, Hd⟩⟩ Hk
  have hcell : ((c : Thread nD τ), SemLoc.dma sem) = kcell (c, j) := by rw [hs]
  iapply (Rounds.wp_copy_pointsTo 𝒱₀ ER (ringRd m) (c : Thread nD τ) none (src := src) (dst := dst) (sem := .dma sem) (r := r) (d := (0 : Fin 3)) (κ := K (c, j))
      (fs := fs) (fd := fd)
      (by rw [hcell, duties_eq, hd]; exact Finset.mem_singleton_self _) () (nk j) hN
      (by rw [hcell, amount_eq, amt_own j hj])
      (by
        rw [hcell, payload_eq]
        refine BIBase.Entails.trans ?_ hpay
        unfold owns
        iintro ⟨Hd, Hs⟩
        isplitl [Hd]
        · iexists (dst.view.write (Elt F) fd (src.view.read (Elt F) fs) Finset.univ); isplitr
          · ipureintro; exact (View.read_write_univ _ _).trans hfs
          iexact Hd
        · iexists fs; isplitr
          · ipureintro; exact hfs
          iexact Hs)) $$ [Ht Hs Hd]
  · rw [hcell]
    isplitr; · iapply (rec_inv m K (c, j)); iexact HR
    isplitl [Hs]; · iexact Hs
    isplitl [Hd]; · iexact Hd
    isplitl [Ht]; · iexact Ht
    iexact Hr
  rw [hcell]
  iintro Hc
  iapply Hk; iexact Hc

/-- A transfer to device `t`: the piece sent goes to the source cell's payload, the piece landed to the target's. -/
theorem send_step (c n t : Dev nD) (hn : n = t) (jS jR : Fin 33) (hjS : jS.val < 32) (hjR : jR.val < 32)
    (hdS : dut (csem jS) 0 = {0}) (hdR : dut (csem jR) 0 = {0}) (i : ℕ)
    (hi : (dues c).drop i = (t, jR) :: (dues c).drop (i + 1))
    {semS semR : DmaSem sig} (hsS : SemLoc.dma semS = csem jS) (hsR : SemLoc.dma semR = csem jR)
    {s : Shape} {e : EltTy}
    {src : Memref sig .tc .vmem s e} {dst : Memref sig .tc .vmem s e} {hsrc : src.view.WordExact} {hdst : dst.view.WordExact}
    {hsc : dst.view.ref.isScScratch = false}
    {hsem : DmaTarget.Typed .vmem (.dma semR) (.remote (Dev.tc n : Thread nD τ) dst (.dma semS) hsc)}
    (hN : dst.view.dmaCredit = nk jS) (hNR : nk jR = nk jS) {q : PosShare TreeShare} {X Y : s.Idx → Elt F e}
    (hpS : owns (c : Thread nD τ) src q X ⊢ payS m c (csem jS) 0 0)
    (hpR : owns (t : Thread nD τ) dst fullShare X ⊢ payS m t (csem jR) 0 0)
    {α : Type} {Q : α → sProp 𝕄} {k : PUnit → Prog (TpuEff nD τ sig (Elt F) Λ₀ .tc) α} :
    iprop(records m K ∗ owN c i ∗ tok (c, jS) 0 0 ∗ tok (t, jR) 0 0
        ∗ owns (c : Thread nD τ) src q X ∗ owns (t : Thread nD τ) dst fullShare Y)
      ⊢ iprop(((crd (c, jS) ∗ owN c (i + 1)) -∗ wpc c (k ⟨⟩) Q)
          -∗ wpc c (.op (.enqueueDma src (.remote (Dev.tc n : Thread nD τ) dst (.dma semS) hsc) (.dma semR) hsrc hdst hsem) k) Q) := by
  subst hn
  unfold owN; rw [hi]; generalize (dues c).drop (i + 1) = l; unfold ow owns
  iintro ⟨#HR, ⟨%W, HO⟩, HtS, HtR, ⟨%fs, %hfs, Hs⟩, ⟨%fd, %hfd, Hd⟩⟩ Hk
  have hcS : ((c : Thread nD τ), SemLoc.dma semS) = kcell (c, jS) := by rw [hsS]
  have hcR : ((n : Thread nD τ), SemLoc.dma semR) = kcell (n, jR) := by rw [hsR]
  iapply (Rounds.wp_send_pointsTo 𝒱₀ ER (ringRd m) (c : Thread nD τ) none (κ₁ := K (c, jS)) (κ₂ := K (n, jR))
      (c' := (n : Thread nD τ)) (src := src) (dst := dst) (sS := .dma semS) (sem := .dma semR)
      (r₁ := 0) (r₂ := 0) (d₁ := (0 : Fin 3)) (d₂ := (0 : Fin 3)) (fs := fs) (fd := fd) (q := q)
      (by rw [hcS, duties_eq, hdS]; exact Finset.mem_singleton_self _) (by rw [hcR, duties_eq, hdR]; exact Finset.mem_singleton_self _)
      () () (nk jS) hN (by rw [hcS, amount_eq, amt_own jS hjS]) (by rw [hcR, amount_eq, amt_own jR hjR, hNR]) (Ol l)
      (by rw [hcR, ← hNR, ← amt_own jR hjR]) (W := W)
      (by
        rw [hcS, payload_eq]
        refine BIBase.Entails.trans ?_ hpS
        unfold owns
        iintro Hs
        iexists _; isplitr
        · ipureintro; exact hfs
        iexact Hs)
      (by
        rw [hcR, payload_eq]
        refine BIBase.Entails.trans ?_ hpR
        unfold owns
        iintro Hs
        iexists (dst.view.write (Elt F) fd (src.view.read (Elt F) fs) Finset.univ); isplitr
        · ipureintro; exact (View.read_write_univ _ _).trans hfs
        iexact Hs)) $$ [HO HtS HtR Hs Hd]
  · rw [hcS, hcR]
    isplitr; · iapply (rec_inv m K (c, jS)); iexact HR
    isplitr; · iapply (rec_inv m K (n, jR)); iexact HR
    isplitl [Hs]; · iexact Hs
    isplitl [Hd]; · iexact Hd
    isplitl [HO]; · iexact HO
    isplitl [HtS]; · iexact HtS
    isplitr; · iapply (rec_reached m K (c, jS)); iexact HR
    isplitl [HtR]; · iexact HtR
    iapply (rec_reached m K (n, jR)); iexact HR
  rw [hcS]
  iintro ⟨Hc, HO⟩
  iapply Hk
  isplitl [Hc]; · iexact Hc
  iexists W; iexact HO

/-- Loading a piece held at a value reads the value. -/
theorem load_step (c : Dev nD) {s : Shape} {e : EltTy} {M : Memref sig .tc .vmem s e} {rc : Rect s} {hl : M.view.LoadsAt rc.toLoadRect}
    (hr : ∀ a, rc.stride a = 1) {q : PosShare TreeShare} {X : rc.shape.Idx → Elt F e}
    {α : Type} {Q : α → sProp 𝕄} {k : (rc.shape.Idx → Elt F e) → Prog (TpuEff nD τ sig (Elt F) Λ₀ .tc) α} :
    owns (c : Thread nD τ) (M.slice rc hr) q X
      ⊢ iprop((owns (c : Thread nD τ) (M.slice rc hr) q X -∗ wpc c (k X) Q) -∗ wpc c (.op (.load M rc.toLoadRect hl) k) Q) := by
  unfold owns
  iintro ⟨%f, %hf, H⟩ Hk
  iapply (wp_load_rect 𝒱₀ (c : Thread nD τ) none Set.univ (m := M) (r := rc) (S := (M.access rc).set) (f := f) (q := q) (Finset.Subset.refl _)) $$ H
  iintro H
  subst hf
  iapply Hk
  iexists f
  isplitr; · ipureintro; rfl
  iexact H

/-- Storing a whole piece makes its value what was stored. -/
theorem store_step (c : Dev nD) {s : Shape} {e : EltTy} {M : Memref sig .tc .vmem s e} {rc : Rect s}
    (hr : ∀ a, rc.stride a = 1) {X w : rc.shape.Idx → Elt F e} {hx : (M.access rc).Stores Finset.univ}
    {hm : (Finset.univ : Finset rc.shape.Idx) = Finset.univ ∨ ∀ a, rc.stride a = 1}
    {α : Type} {Q : α → sProp 𝕄} {k : PUnit → Prog (TpuEff nD τ sig (Elt F) Λ₀ .tc) α} :
    owns (c : Thread nD τ) (M.slice rc hr) fullShare X
      ⊢ iprop((owns (c : Thread nD τ) (M.slice rc hr) fullShare w -∗ wpc c (k ⟨⟩) Q)
          -∗ wpc c (.op (.store M rc w Finset.univ hx hm) k) Q) := by
  unfold owns
  iintro ⟨%f, %hf, H⟩ Hk
  iapply (wp_store 𝒱₀ (c : Thread nD τ) none Set.univ (m := M) (r := rc) (Mk := Finset.univ) (S := (M.access rc).set) (f := f) (View.setOn_subset_set _ _)) $$ H
  iintro H
  iapply Hk
  iexists ((M.access rc).write (Elt F) f w Finset.univ)
  isplitr
  · ipureintro
    exact View.read_write_univ _ _
  iexact H

end Steps

end Cert.KernelIdeal.Ring

end
-- ==== Proof.IdealPays.lean ====
/-
# Handing pieces over

What a piece of a buffer becomes when it is handed over: a sent piece is a piece at some contents, a landed piece is
the piece the target expects; pieces of a buffer put together; the stores of the output in order.
-/
module

public import proofs.«01_k».proof.Proof.IdealRules
public import Idealize.ShloMosaic.Lib.Memref
public import Idealize.ShloMosaic.Lib.MemrefSat

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Hand

variable (c : Dev nD)

omit [FloatOps F] [Named F] in
/-- A piece held at a value is held at some contents. -/
theorem any_intro {s : Shape} {e : EltTy} (M : Memref sig .tc .vmem s e) (X : s.Idx → Elt F e) :
    (owns (c : Thread nD τ) M fullShare X : sProp 𝕄) ⊢ any c M := by
  unfold any
  iintro H
  iexists X; iexact H

omit [FloatOps F] [Named F] in
/-- The same through a squeeze. -/
theorem any_sq {s s' : Shape} {e : EltTy} (M : Memref sig .tc .vmem s e) (h : s.Squeezes s') (X : s'.Idx → Elt F e) :
    (owns (c : Thread nD τ) (M.squeeze s' h) fullShare X : sProp 𝕄) ⊢ any c M := by
  rw [owns_squeeze]; exact any_intro c M _

omit [FloatOps F] [Named F] in
/-- A squeezed piece at a value is the piece at any value that reads the same. -/
theorem land_sq {s s' : Shape} {e : EltTy} (M : Memref sig .tc .vmem s e) (h : s.Squeezes s') (q : PosShare TreeShare) {X : s'.Idx → Elt F e}
    {Y : s.Idx → Elt F e} (hXY : unsq h X = Y) :
    (owns (c : Thread nD τ) (M.squeeze s' h) q X : sProp 𝕄) ⊢ owns (c : Thread nD τ) M q Y := by
  rw [owns_squeeze, hXY]

omit [FloatOps F] [Named F] in
/-- A share of a piece is its two halves. -/
theorem owns_cut {s : Shape} {e : EltTy} (M : Memref sig .tc .vmem s e) (q : PosShare TreeShare) (X : s.Idx → Elt F e) :
    (owns (c : Thread nD τ) M q X : sProp 𝕄) ⊢ iprop(owns (c : Thread nD τ) M q.left X ∗ owns (c : Thread nD τ) M q.right X) :=
  (owns_halves (c : Thread nD τ) M q X).1
omit [FloatOps F] [Named F] in
/-- Two halves of a share of a piece are the share. -/
theorem owns_uncut {s : Shape} {e : EltTy} (M : Memref sig .tc .vmem s e) (q : PosShare TreeShare) (X : s.Idx → Elt F e) :
    iprop(owns (c : Thread nD τ) M q.left X ∗ owns (c : Thread nD τ) M q.right X) ⊢ (owns (c : Thread nD τ) M q X : sProp 𝕄) :=
  (owns_halves (c : Thread nD τ) M q X).2

end Hand

/-! ## What is sent is what is expected -/

variable (m : (ℓ : Loc nD τ sig) → Buf (Elt F) ℓ) (c : Dev nD)

/-- The A stage is the first A landing of the device three places after. -/
theorem LA0_at (q : Fin 2) : unsq squeezes_S1x512x1024_S512x1024 (stA m c q) = LA0 m (off 3 c) q := by
  unfold LA0; rw [off_off 3 1 rfl]
/-- The B stage is the first B landing of the device one place after. -/
theorem LB0_at (q : Fin 2) : unsq squeezes_S1x512x1024_S512x1024 (stB m c q) = LB0 m (off 1 c) q := by
  unfold LB0; rw [off_off 1 3 rfl]
/-- What is stored at the first A step is the second A landing of the device three places after. -/
theorem LA1_at (q : Fin 2) : SA0 m c q = LA1 m (off 3 c) q := by unfold LA1; rw [off_off 3 1 rfl]
/-- What is stored at the first B step is the second B landing of the device one place after. -/
theorem LB1_at (q : Fin 2) : SB0 m c q = LB1 m (off 1 c) q := by unfold LB1; rw [off_off 1 3 rfl]
/-- What is stored at the second A step is the third A landing of the device three places after. -/
theorem LA2_at (q : Fin 2) : SA1 m c q = LA2 m (off 3 c) q := by unfold LA2; rw [off_off 3 1 rfl]
/-- What is stored at the second B step is the third B landing of the device one place after. -/
theorem LB2_at (q : Fin 2) : SB1 m c q = LB2 m (off 1 c) q := by unfold LB2; rw [off_off 1 3 rfl]
/-- A device's maximum is slot 0 of the next device, -/
theorem VM0_at : am m c = VM m (off 1 c) 0 := by unfold VM; rw [show 3 - (0 : Fin 4).val = 3 from rfl, off_off 1 3 rfl]
/-- slot 1 of the device two places on, -/
theorem VM1_at : am m c = VM m (off 2 c) 1 := by unfold VM; rw [show 3 - (1 : Fin 4).val = 2 from rfl, off_off 2 2 rfl]
/-- slot 2 of the device three places on, -/
theorem VM2_at : am m c = VM m (off 3 c) 2 := by unfold VM; rw [show 3 - (2 : Fin 4).val = 1 from rfl, off_off 3 1 rfl]
/-- and slot 3 of its own. -/
theorem VM3_at : am m c = VM m c 3 := by
  unfold VM
  rw [show off (3 - (3 : Fin 4).val) c = c from Fin.ext (Nat.mod_eq_of_lt c.isLt)]

/-! ## The maxima together -/

/-- The four maxima as one buffer. -/
def GM : S4x8x128.Idx → Elt F .f32 := fun i => VM m c (i 0) (show S1x8x128.Idx from Fin.cons (0 : Fin 1) (Fin.cons (i 1) (Fin.cons (i 2) (fun a => a.elim0))))

/-- The slots of the maxima do not overlap. -/
theorem mrect_disj (j j' : Fin 4) (h : j ≠ j') : Disjoint (mrect j).set (mrect j').set :=
  Rect.disjoint_of_axis _ _ 0 fun a ha b hb => by
    have h0 : (mrect j).size 0 = 1 := rfl
    have h1 : (mrect j').size 0 = 1 := rfl
    rw [h0] at ha; rw [h1] at hb
    show j.val + 1 * a ≠ j'.val + 1 * b
    intro e
    exact h (Fin.ext (by omega))
/-- The slots of the maxima cover their buffer. -/
theorem mrect_cov : (Finset.univ : Finset (Fin 4)).biUnion (fun j => (mrect j).set) = Finset.univ :=
  Finset.eq_univ_of_forall fun i => Finset.mem_biUnion.mpr ⟨i 0, Finset.mem_univ _, Rect.mem_set_unit.mpr fun a => by
    fin_cases a
    · exact ⟨Nat.le_refl _, Nat.lt_succ_self _⟩
    · exact ⟨Nat.zero_le _, (Nat.zero_add _).symm ▸ (i 1).isLt⟩
    · exact ⟨Nat.zero_le _, (Nat.zero_add _).symm ▸ (i 2).isLt⟩⟩

/-- The buffer of the maxima at slot `j` is that slot. -/
theorem GM_at (j : Fin 4) : (fun i => GM m c ((mrect j).emb i)) = VM m c j := by
  funext i
  have e0 : ((mrect j).emb i) 0 = j := Fin.ext (by
    show j.val + 1 * (i 0).val = j.val
    have : (i 0).val < 1 := (i 0).isLt
    omega)
  have e1 : ((mrect j).emb i) 1 = i 1 := Fin.ext (by show 0 + 1 * (i 1).val = (i 1).val; omega)
  have e2 : ((mrect j).emb i) 2 = i 2 := Fin.ext (by show 0 + 1 * (i 2).val = (i 2).val; omega)
  unfold GM
  rw [e0]
  refine congrArg (VM m c j) (funext fun a => ?_)
  fin_cases a
  · exact Fin.ext (by have : (i 0).val < 1 := (i 0).isLt; show 0 = (i 0).val; omega)
  · exact e1
  · exact e2

/-- The four slots at their values are the buffer at theirs. -/
theorem gather :
    iprop(owns (c : Thread nD τ) (mP 0) fullShare (VM m c 0) ∗ owns (c : Thread nD τ) (mP 1) fullShare (VM m c 1)
        ∗ owns (c : Thread nD τ) (mP 2) fullShare (VM m c 2) ∗ owns (c : Thread nD τ) (mP 3) fullShare (am m c))
      ⊢ (owns (c : Thread nD τ) mM fullShare (GM m c) : sProp 𝕄) := by
  rw [VM3_at]
  refine BIBase.Entails.trans ?_ (owns_of_rects (c : Thread nD τ) mM fullShare mrect (fun _ _ => rfl) mrect_disj mrect_cov (GM m c))
  simp only [GM_at]
  rw [bigSep_univ_eq_bigSepL [0, 1, 2, 3] (by decide) (by decide)]
  exact .rfl

/-- The three shares of the own maximum together. -/
theorem uncut3 :
    iprop(owns (c : Thread nD τ) (mP 3) (shr 0) (am m c) ∗ owns (c : Thread nD τ) (mP 3) (shr 1) (am m c) ∗ owns (c : Thread nD τ) (mP 3) (shr 2) (am m c))
      ⊢ (owns (c : Thread nD τ) (mP 3) fullShare (am m c) : sProp 𝕄) := by
  refine BIBase.Entails.trans ?_ (owns_uncut c (mP 3) fullShare (am m c))
  iintro ⟨H0, H1, H2⟩
  isplitl [H0]; · iexact H0
  iapply (show iprop(owns (c : Thread nD τ) (mP 3) (shr 1) (am m c) ∗ owns (c : Thread nD τ) (mP 3) (shr 2) (am m c))
      ⊢ (owns (c : Thread nD τ) (mP 3) fullShare.right (am m c) : sProp 𝕄) from owns_uncut c (mP 3) fullShare.right (am m c))
  isplitl [H1]; · iexact H1
  iexact H2

/-- Three zeros are zero on every axis. -/
theorem hz3 : (![0, 0, 0] : Fin 3 → ℕ) = fun _ => 0 := funext fun a => by fin_cases a <;> rfl

/-- Loading the maxima. -/
theorem load_max {hl : mM.view.LoadsAt (Rect.unit (s := S4x8x128) ![0, 0, 0] S4x8x128.size inb_S4x8x128_S4x8x128_0_0_0).toLoadRect}
    {α : Type} {Q : α → sProp 𝕄} {k : (S4x8x128.Idx → Elt F .f32) → Prog (TpuEff nD τ sig (Elt F) Λ₀ .tc) α} :
    owns (c : Thread nD τ) mM fullShare (GM m c)
      ⊢ iprop((owns (c : Thread nD τ) mM fullShare (GM m c) -∗ wpc c (k (GM m c)) Q)
          -∗ wpc c (.op (.load mM (Rect.unit (s := S4x8x128) ![0, 0, 0] S4x8x128.size inb_S4x8x128_S4x8x128_0_0_0).toLoadRect hl) k) Q) := by
  have e : mM.view.readAt (Elt F) (Rect.unit (s := S4x8x128) ![0, 0, 0] S4x8x128.size inb_S4x8x128_S4x8x128_0_0_0).toLoadRect (GM m c) = GM m c :=
    Memref.readAt_unit_zero (Elt F) cc0_scratch5 hz3 _ _
  rw [owns_whole]
  iintro H Hk
  iapply (wp_load 𝒱₀ (c : Thread nD τ) none Set.univ (m := mM) (Finset.subset_univ _)) $$ H
  iintro H
  rw [e]
  iapply Hk; iexact H

/-! ## The stores of the result -/

/-- The top left quadrant of the result. -/
abbrev orect00 : Rect S1024x2048 := Rect.unit (s := S1024x2048) ![0, 0] S512x1024.size inb_S1024x2048_S512x1024_0_0
/-- The top right quadrant of the result. -/
abbrev orect01 : Rect S1024x2048 := Rect.unit (s := S1024x2048) ![0, 1024] S512x1024.size inb_S1024x2048_S512x1024_0_1024
/-- The bottom left quadrant of the result. -/
abbrev orect10 : Rect S1024x2048 := Rect.unit (s := S1024x2048) ![512, 0] S512x1024.size inb_S1024x2048_S512x1024_512_0
/-- The bottom right quadrant of the result. -/
abbrev orect11 : Rect S1024x2048 := Rect.unit (s := S1024x2048) ![512, 1024] S512x1024.size inb_S1024x2048_S512x1024_512_1024

/-- The output buffer's contents. -/
abbrev OutTy (F : FTy → Type) : Type := (cc0_stg1_0 : Ref sig .tc).ty.Contents (Elt F)

/-- The output buffer after each of the six stores, from the contents `f` it had before. -/
def o1 (f : OutTy F) : OutTy F := (oM.access orect00).write (Elt F) f (k0_pay27 (v383 m c) (v384 m c)) Finset.univ
/-- After the second store. -/
def o2 (f : OutTy F) : OutTy F := (oM.access orect01).write (Elt F) (o1 m c f) (k0_pay28 (v372 m c) (LB2 m c 0)) Finset.univ
/-- After the third store. -/
def o3 (f : OutTy F) : OutTy F := (oM.access orect10).write (Elt F) (o2 m c f) (k0_pay30 (v371 m c) (LA2 m c 1)) Finset.univ
/-- After the fourth store. -/
def o4 (f : OutTy F) : OutTy F := (oM.access orect11).write (Elt F) (o3 m c f) (v442 m c) Finset.univ
/-- After the fifth store: the left columns scaled. -/
def o5 (f : OutTy F) : OutTy F :=
  (oM.access wrectL).write (Elt F) (o4 m c f) (k0_pay37 (GM m c) (oM.view.readAt (Elt F) wrectL.toLoadRect (o4 m c f))) Finset.univ
/-- After the sixth store: the right columns scaled. -/
def o6 (f : OutTy F) : OutTy F :=
  (oM.access wrectR).write (Elt F) (o5 m c f)
    (k0_pay39 (k0_pay35 (GM m c)) (k0_pay36 (GM m c)) (k0_pay38 (oM.view.readAt (Elt F) wrectR.toLoadRect (o5 m c f)))) Finset.univ

/-! ## The pieces of a buffer at some contents are the buffer at some contents -/

/-- Pieces that do not overlap and cover a buffer, each at some contents, are the buffer at some contents. -/
theorem any_of_rects {T : Type} [Fintype T] [DecidableEq T] {s : Shape} {e : EltTy} (M : Memref sig .tc .vmem s e) (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => any (F := F) c (M.slice (r t) (hr t))) ⊢ (any c M : sProp 𝕄) := by
  unfold any
  refine (bigSep_exists_pi Finset.univ fun t (X : (r t).shape.Idx → Elt F e) => owns (c : Thread nD τ) (M.slice (r t) (hr t)) fullShare X).trans ?_
  iintro ⟨%Xs, H⟩
  iexists Rect.glue r hcov Xs
  iapply (owns_of_rects (c : Thread nD τ) M fullShare r hr hd hcov (Rect.glue r hcov Xs))
  have hg (t : T) : (fun j => Rect.glue r hcov Xs ((r t).emb j)) = Xs t := funext fun y => Rect.glue_emb r hcov hd Xs t y
  simp only [hg]
  iexact H

/-- and back. -/
theorem rects_of_any {T : Type} [Fintype T] [DecidableEq T] {s : Shape} {e : EltTy} (M : Memref sig .tc .vmem s e) (r : T → Rect s)
    (hr : ∀ t a, (r t).stride a = 1) (hd : ∀ t t', t ≠ t' → Disjoint (r t).set (r t').set)
    (hcov : (Finset.univ : Finset T).biUnion (fun t => (r t).set) = Finset.univ) :
    (any c M : sProp 𝕄) ⊢ bigSep Finset.univ fun t => any (F := F) c (M.slice (r t) (hr t)) := by
  have h (X : s.Idx → Elt F e) : (owns (c : Thread nD τ) M fullShare X : sProp 𝕄) ⊢ bigSep Finset.univ fun t => any (F := F) c (M.slice (r t) (hr t)) :=
    (owns_rects (c : Thread nD τ) M fullShare r hr hd hcov X).trans
      (bigSep_mono fun t _ => any_intro c (M.slice (r t) (hr t)) (fun j => X ((r t).emb j)))
  iintro H
  ihave H := (show (any c M : sProp 𝕄) ⊢ iprop(∃ X : s.Idx → Elt F e, owns (c : Thread nD τ) M fullShare X) from .rfl) $$ H
  icases H with ⟨%X, H⟩
  iapply (h X); iexact H

end Cert.KernelIdeal.Ring

end
-- ==== Proof.IdealB1.lean ====
/-
# The body of the ring, part by part (the barrier and the stages)

Each part of the kernel body is run from the pieces, positions, tokens and credits it uses to those it leaves, one
rule per effect in program order.
-/
module

public import proofs.«01_k».proof.Proof.IdealPays

@[expose] public section

set_option maxRecDepth 16384
set_option maxHeartbeats 1600000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 33 → ℕ) (c : Dev nD)

/-- The first part: two row blocks of `x` under way, the first barrier unit paid. -/
theorem part1 (y0 y1 : S1x1024x1024.Idx → Elt F .f32) (Q : _ → sProp 𝕄) :
    iprop(records m K
        ∗ owN c 0
        ∗ tok (c, 0) 0 0
        ∗ rowAt c (h1 c) ((h1 c).view.read (Elt F) (xv m c))
        ∗ owns (c : Thread nD τ) (xP 0) fullShare y0
        ∗ tok (c, 1) 0 0
        ∗ rowAt c (h3 c) ((h3 c).view.read (Elt F) (xv m c))
        ∗ owns (c : Thread nD τ) (xP 1) fullShare y1
        ∗ tok (off 1 c, 32) 0 0
        ∗ barPay (off 1 c) 0)
      ⊢ iprop((∀ v2 v5 v7 v27, (owN c 1
          ∗ crd (c, 0)
          ∗ crd (c, 1)) -∗ Q ⟨c, v2, v5, v7, SemArray.scalar (sig.barrier 0 rfl), v27, 4#32⟩)
        -∗ wpc c (k0_part1 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  simp only [k0_part1_eq_skeleton]; unfold k0_part1_skel
  simp only [semSignalWord, semWaitWord, Prog.lift, Prog.bind_op, Prog.bind_ret, Prog.pure_eq_ret, wp_deviceId]
  iintro ⟨#HR, HO, Ht00, Hh1, Hx0, Ht10, Hh3, Hx1, Htb1, Hpb1⟩ Hk
  iapply (copy_step m K c 0 (by decide) 0 (dut_x 0 (by decide) 0) rfl (src := h1 c) (dst := xPs 0) (X := (h1 c).view.read (Elt F) (xv m c))
      (Y := fun j => y0 (Shape.reshapeEquiv squeezes_S1x1024x1024_S1024x1024.numel_eq j)) rfl
      (by rw [owns_squeeze]; exact .rfl)) $$ [Ht00 Hh1 Hx0]
  · isplitr; · iexact HR
    isplitr; · iapply (rec_reached m K (c, 0)); iexact HR
    isplitl [Ht00]; · iexact Ht00
    isplitl [Hh1]; · unfold rowAt; iexact Hh1
    rw [owns_squeeze, unsq_sq]; iexact Hx0
  iintro Hc0
  iapply (copy_step m K c 1 (by decide) 0 (dut_x 1 (by decide) 0) rfl (src := h3 c) (dst := xPs 1) (X := (h3 c).view.read (Elt F) (xv m c))
      (Y := fun j => y1 (Shape.reshapeEquiv squeezes_S1x1024x1024_S1024x1024.numel_eq j)) rfl
      (by rw [owns_squeeze]; exact .rfl)) $$ [Ht10 Hh3 Hx1]
  · isplitr; · iexact HR
    isplitr; · iapply (rec_reached m K (c, 1)); iexact HR
    isplitl [Ht10]; · iexact Ht10
    isplitl [Hh3]; · unfold rowAt; iexact Hh3
    rw [owns_squeeze, unsq_sq]; iexact Hx1
  iintro Hc1
  iapply (signal_step m K c _ (off 1 c) (dev1_eq c) 0 rfl 0 rfl rfl) $$ [HO Htb1 Hpb1]
  · isplitr; · iexact HR
    isplitl [HO]; · iexact HO
    isplitl [Htb1] <;> iassumption
  iintro HO
  iapply (ret_step c)
  iapply Hk
  isplitl [HO]; · iexact HO
  isplitl [Hc0]; · iexact Hc0
  iexact Hc1

/-- The other two barrier units, the wait for the three, the weights and the first row block. -/
theorem part2 (w1 w2 w3 w4 : BitVec 32) (Q : _ → sProp 𝕄) :
    iprop(records m K
        ∗ levAts L lv
        ∗ owN c 1
        ∗ tok (off 2 c, 32) 0 1
        ∗ barPay (off 2 c) 1
        ∗ tok (off 3 c, 32) 0 2
        ∗ barPay (off 3 c) 2
        ∗ pos (c, 32) 0
        ∗ crd (c, 32)
        ∗ ((c : Thread nD τ).loc cc0_stg0_0 ↦{fullShare} wst m c)
        ∗ pos (c, 0) 0
        ∗ crd (c, 0))
      ⊢ iprop(((owN c 3
          ∗ semVal (kcell (c, 32)) 0
          ∗ barPay c 0
          ∗ barPay c 1
          ∗ barPay c 2
          ∗ ((c : Thread nD τ).loc cc0_stg0_0 ↦{fullShare} wst m c)
          ∗ pos (c, 0) 1
          ∗ reached ER (kcell (c, 0)) 1
          ∗ owns (c : Thread nD τ) (xP 0) fullShare (X1 m c)
          ∗ rowAt c (h1 c) ((h1 c).view.read (Elt F) (xv m c))) -∗ Q ⟨wA m c, wB m c, k0_pay3 (X1 m c)⟩)
        -∗ wpc c (k0_part2 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 w2 (SemArray.scalar (sig.barrier 0 rfl)) w3 w4) Q) := by
  simp only [k0_part2_eq_skeleton]; unfold k0_part2_skel
  simp only [semSignalWord, semWaitWord, Prog.lift, Prog.bind_op, Prog.bind_ret, Prog.pure_eq_ret, wp_deviceId]
  unfold wA wB
  iintro ⟨#HR, #HL, HO, Htb2, Hpb2, Htb3, Hpb3, Hp32, Hc32, Hw, Hp0, Hc0⟩ Hk
  iapply (signal_step m K c _ (off 2 c) (dev2_eq c) 1 rfl 1 rfl rfl) $$ [HO Htb2 Hpb2]
  · isplitr; · iexact HR
    isplitl [HO]; · iexact HO
    isplitl [Htb2] <;> iassumption
  iintro HO
  iapply (signal_step m K c _ (off 3 c) (dev3_eq c) 2 rfl 2 rfl rfl) $$ [HO Htb3 Hpb3]
  · isplitr; · iexact HR
    isplitl [HO]; · iexact HO
    isplitl [Htb3] <;> iassumption
  iintro HO
  iapply (barrier_step m K c rfl 3 (by decide) rfl) $$ [HO Hp32 Hc32]
  · isplitr; · iexact HR
    isplitr; · iexact HL
    isplitl [HO]; · iexact HO
    isplitl [Hp32] <;> iassumption
  iintro ⟨HO, Hz32, Hb0, Hb1, Hb2⟩
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wait_step m K c 0 (by decide) 0 (dut_x 0 (by decide) 0) 3 (by decide) rfl rfl
      (dst := xPs 0) (P := iprop(owns (c : Thread nD τ) (xP 0) fullShare (X1 m c) ∗ rowAt c (h1 c) ((h1 c).view.read (Elt F) (xv m c)))) rfl) $$ [HO Hp0 Hc0]
  · isplitr; · iexact HR
    isplitr; · iexact HL
    isplitl [HO]; · iexact HO
    isplitl [Hp0] <;> iassumption
  iintro ⟨HO, Hp0, Hr0, Hx0, Hh1⟩
  iapply (load_step c (M := xM) (rc := xrect 0) (fun _ => rfl)) $$ Hx0; iintro Hx0
  iapply (ret_step c)
  iapply Hk
  isplitl [HO]; · iexact HO
  isplitl [Hz32]; · iexact Hz32
  isplitl [Hb0]; · iexact Hb0
  isplitl [Hb1]; · iexact Hb1
  isplitl [Hb2]; · iexact Hb2
  isplitl [Hw]; · iexact Hw
  isplitl [Hp0]; · iexact Hp0
  isplitl [Hr0]; · iexact Hr0
  isplitl [Hx0]; · iexact Hx0
  iexact Hh1

/-- The third row block under way; the first half of the A stage stored and sent, the second stored. -/
theorem part3 (y0 y1 : S512x1024.Idx → Elt F .bf16) (w1 : BitVec 32) (ydA00 : S1x512x1024.Idx → Elt F .bf16) (Q : _ → sProp 𝕄) :
    iprop(records m K
        ∗ owN c 3
        ∗ owns (c : Thread nD τ) (xP 0) fullShare (X1 m c)
        ∗ tok (c, 0) 1 0
        ∗ rowAt c (h2 c) ((h2 c).view.read (Elt F) (xv m c))
        ∗ reached ER (kcell (c, 0)) 1
        ∗ owns (c : Thread nD τ) (sA 0) fullShare y0
        ∗ owns (c : Thread nD τ) (sA 1) fullShare y1
        ∗ tok (c, 2) 0 0
        ∗ tok (off 3 c, 8) 0 0
        ∗ owns (off 3 c : Thread nD τ) (cA 0 0) fullShare ydA00)
      ⊢ iprop(((owN c 4
          ∗ crd (c, 0)
          ∗ crd (c, 2)
          ∗ owns (c : Thread nD τ) (sA 1) fullShare (stA m c 1)) -∗ Q ⟨⟩)
        -∗ wpc c (k0_part3 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (wA m c) (k0_pay3 (X1 m c))) Q) := by
  simp only [k0_part3_eq_skeleton]; unfold k0_part3_skel
  simp only [semSignalWord, semWaitWord, Prog.lift, Prog.bind_op, Prog.bind_ret, Prog.pure_eq_ret, wp_deviceId]
  iintro ⟨#HR, HO, Hx0, Ht01, Hh2, Hr0, HsA0, HsA1, HtS2, HtR8, HdA00⟩ Hk
  iapply (copy_step m K c 0 (by decide) 1 (dut_x 0 (by decide) 1) rfl (src := h2 c) (dst := xPs 0) (X := (h2 c).view.read (Elt F) (xv m c))
      (Y := fun j => (X1 m c) (Shape.reshapeEquiv squeezes_S1x1024x1024_S1024x1024.numel_eq j)) rfl
      (by rw [owns_squeeze]; exact .rfl)) $$ [Ht01 Hh2 Hx0 Hr0]
  · isplitr; · iexact HR
    isplitl [Hr0]; · iexact Hr0
    isplitl [Ht01]; · iexact Ht01
    isplitl [Hh2]; · unfold rowAt; iexact Hh2
    rw [owns_squeeze, unsq_sq]; iexact Hx0
  iintro Hc0
  iapply (load_step c (M := sAM) (rc := srect 0) (fun _ => rfl)) $$ HsA0; iintro HsA0
  iapply (store_step c (M := sAM) (rc := srect 0) (fun _ => rfl) (w := (stA m c 0))) $$ HsA0; iintro HsA0
  iapply (send_step m K c _ (off 3 c) (dev4_eq c) 2 8 (by decide) (by decide) (dut_own 2 (by decide)) (dut_own 8 (by decide)) 3 rfl rfl rfl
      (src := sA 0) (dst := cAs 0 0) rfl rfl (q := fullShare) (X := (stA m c 0))
      (Y := fun j => ydA00 (Shape.reshapeEquiv squeezes_S1x512x1024_S512x1024.numel_eq j))
      (any_intro c (sA 0) _) (land_sq (off 3 c) (cA 0 0) squeezes_S1x512x1024_S512x1024 fullShare (LA0_at m c 0))) $$ [HO HtS2 HtR8 HsA0 HdA00]
  · isplitr; · iexact HR
    isplitl [HO]; · iexact HO
    isplitl [HtS2]; · iexact HtS2
    isplitl [HtR8]; · iexact HtR8
    isplitl [HsA0]; · iexact HsA0
    rw [owns_squeeze, unsq_sq]; iexact HdA00
  iintro ⟨Hc2, HO⟩
  iapply (load_step c (M := sAM) (rc := srect 1) (fun _ => rfl)) $$ HsA1; iintro HsA1
  iapply (store_step c (M := sAM) (rc := srect 1) (fun _ => rfl) (w := (stA m c 1))) $$ HsA1; iintro HsA1
  iapply (ret_step c)
  iapply Hk
  isplitl [HO]; · iexact HO
  isplitl [Hc0]; · iexact Hc0
  isplitl [Hc2]; · iexact Hc2
  iexact HsA1

/-- The second half of the A stage sent; the second row block in, the fourth under way; the first half of the B stage stored. -/
theorem part4 (y0 : S512x1024.Idx → Elt F .bf16) (w1 : BitVec 32) (ydA01 : S1x512x1024.Idx → Elt F .bf16) (Q : _ → sProp 𝕄) :
    iprop(records m K
        ∗ levAts L lv
        ∗ owN c 4
        ∗ owns (c : Thread nD τ) (sA 1) fullShare (stA m c 1)
        ∗ tok (c, 3) 0 0
        ∗ tok (off 3 c, 9) 0 0
        ∗ owns (off 3 c : Thread nD τ) (cA 0 1) fullShare ydA01
        ∗ pos (c, 1) 0
        ∗ crd (c, 1)
        ∗ tok (c, 1) 1 0
        ∗ rowAt c (h0 c) ((h0 c).view.read (Elt F) (xv m c))
        ∗ owns (c : Thread nD τ) (sB 0) fullShare y0)
      ⊢ iprop(((owN c 5
          ∗ crd (c, 3)
          ∗ pos (c, 1) 1
          ∗ rowAt c (h3 c) ((h3 c).view.read (Elt F) (xv m c))
          ∗ crd (c, 1)
          ∗ owns (c : Thread nD τ) (sB 0) fullShare (stB m c 0)) -∗ Q ⟨k0_pay6 (X3 m c), 1#32⟩)
        -∗ wpc c (k0_part4 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (wB m c)) Q) := by
  simp only [k0_part4_eq_skeleton]; unfold k0_part4_skel
  simp only [semSignalWord, semWaitWord, Prog.lift, Prog.bind_op, Prog.bind_ret, Prog.pure_eq_ret, wp_deviceId]
  iintro ⟨#HR, #HL, HO, HsA1, HtS3, HtR9, HdA01, Hp1, Hc1, Ht11, Hh0, HsB0⟩ Hk
  iapply (send_step m K c _ (off 3 c) (dev5_eq c) 3 9 (by decide) (by decide) (dut_own 3 (by decide)) (dut_own 9 (by decide)) 4 rfl rfl rfl
      (src := sA 1) (dst := cAs 0 1) rfl rfl (q := fullShare) (X := (stA m c 1))
      (Y := fun j => ydA01 (Shape.reshapeEquiv squeezes_S1x512x1024_S512x1024.numel_eq j))
      (any_intro c (sA 1) _) (land_sq (off 3 c) (cA 0 1) squeezes_S1x512x1024_S512x1024 fullShare (LA0_at m c 1))) $$ [HO HtS3 HtR9 HsA1 HdA01]
  · isplitr; · iexact HR
    isplitl [HO]; · iexact HO
    isplitl [HtS3]; · iexact HtS3
    isplitl [HtR9]; · iexact HtR9
    isplitl [HsA1]; · iexact HsA1
    rw [owns_squeeze, unsq_sq]; iexact HdA01
  iintro ⟨Hc3, HO⟩
  iapply (wait_step m K c 1 (by decide) 0 (dut_x 1 (by decide) 0) 5 (by decide) rfl rfl
      (dst := xPs 1) (P := iprop(owns (c : Thread nD τ) (xP 1) fullShare (X3 m c) ∗ rowAt c (h3 c) ((h3 c).view.read (Elt F) (xv m c)))) rfl) $$ [HO Hp1 Hc1]
  · isplitr; · iexact HR
    isplitr; · iexact HL
    isplitl [HO]; · iexact HO
    isplitl [Hp1] <;> iassumption
  iintro ⟨HO, Hp1, Hr1, Hx1, Hh3⟩
  iapply (load_step c (M := xM) (rc := xrect 1) (fun _ => rfl)) $$ Hx1; iintro Hx1
  iapply (copy_step m K c 1 (by decide) 1 (dut_x 1 (by decide) 1) rfl (src := h0 c) (dst := xPs 1) (X := (h0 c).view.read (Elt F) (xv m c))
      (Y := fun j => (X3 m c) (Shape.reshapeEquiv squeezes_S1x1024x1024_S1024x1024.numel_eq j)) rfl
      (by rw [owns_squeeze]; exact .rfl)) $$ [Ht11 Hh0 Hx1 Hr1]
  · isplitr; · iexact HR
    isplitl [Hr1]; · iexact Hr1
    isplitl [Ht11]; · iexact Ht11
    isplitl [Hh0]; · unfold rowAt; iexact Hh0
    rw [owns_squeeze, unsq_sq]; iexact Hx1
  iintro Hc1
  iapply (load_step c (M := sBM) (rc := srect 0) (fun _ => rfl)) $$ HsB0; iintro HsB0
  iapply (store_step c (M := sBM) (rc := srect 0) (fun _ => rfl) (w := (stB m c 0))) $$ HsB0; iintro HsB0
  iapply (ret_step c)
  iapply Hk
  isplitl [HO]; · iexact HO
  isplitl [Hc3]; · iexact Hc3
  isplitl [Hp1]; · iexact Hp1
  isplitl [Hh3]; · iexact Hh3
  isplitl [Hc1]; · iexact Hc1
  iexact HsB0

/-- The two halves of the B stage sent, the second stored before. -/
theorem part5 (y1 : S512x1024.Idx → Elt F .bf16) (w1 w2 w3 : BitVec 32) (ydB00 : S1x512x1024.Idx → Elt F .bf16) (ydB01 : S1x512x1024.Idx → Elt F .bf16) (Q : _ → sProp 𝕄) :
    iprop(records m K
        ∗ owN c 5
        ∗ owns (c : Thread nD τ) (sB 0) fullShare (stB m c 0)
        ∗ tok (c, 14) 0 0
        ∗ tok (off 1 c, 20) 0 0
        ∗ owns (off 1 c : Thread nD τ) (cB 0 0) fullShare ydB00
        ∗ owns (c : Thread nD τ) (sB 1) fullShare y1
        ∗ tok (c, 15) 0 0
        ∗ tok (off 1 c, 21) 0 0
        ∗ owns (off 1 c : Thread nD τ) (cB 0 1) fullShare ydB01)
      ⊢ iprop(((owN c 7
          ∗ crd (c, 14)
          ∗ crd (c, 15)) -∗ Q ⟨⟩)
        -∗ wpc c (k0_part5 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 w2 (wB m c) (k0_pay6 (X3 m c)) w3) Q) := by
  simp only [k0_part5_eq_skeleton]; unfold k0_part5_skel
  simp only [semSignalWord, semWaitWord, Prog.lift, Prog.bind_op, Prog.bind_ret, Prog.pure_eq_ret, wp_deviceId]
  iintro ⟨#HR, HO, HsB0, HtS14, HtR20, HdB00, HsB1, HtS15, HtR21, HdB01⟩ Hk
  iapply (send_step m K c _ (off 1 c) (dev6_eq c) 14 20 (by decide) (by decide) (dut_own 14 (by decide)) (dut_own 20 (by decide)) 5 rfl rfl rfl
      (src := sB 0) (dst := cBs 0 0) rfl rfl (q := fullShare) (X := (stB m c 0))
      (Y := fun j => ydB00 (Shape.reshapeEquiv squeezes_S1x512x1024_S512x1024.numel_eq j))
      (any_intro c (sB 0) _) (land_sq (off 1 c) (cB 0 0) squeezes_S1x512x1024_S512x1024 fullShare (LB0_at m c 0))) $$ [HO HtS14 HtR20 HsB0 HdB00]
  · isplitr; · iexact HR
    isplitl [HO]; · iexact HO
    isplitl [HtS14]; · iexact HtS14
    isplitl [HtR20]; · iexact HtR20
    isplitl [HsB0]; · iexact HsB0
    rw [owns_squeeze, unsq_sq]; iexact HdB00
  iintro ⟨Hc14, HO⟩
  iapply (load_step c (M := sBM) (rc := srect 1) (fun _ => rfl)) $$ HsB1; iintro HsB1
  iapply (store_step c (M := sBM) (rc := srect 1) (fun _ => rfl) (w := (stB m c 1))) $$ HsB1; iintro HsB1
  iapply (send_step m K c _ (off 1 c) (dev7_eq c) 15 21 (by decide) (by decide) (dut_own 15 (by decide)) (dut_own 21 (by decide)) 6 rfl rfl rfl
      (src := sB 1) (dst := cBs 0 1) rfl rfl (q := fullShare) (X := (stB m c 1))
      (Y := fun j => ydB01 (Shape.reshapeEquiv squeezes_S1x512x1024_S512x1024.numel_eq j))
      (any_intro c (sB 1) _) (land_sq (off 1 c) (cB 0 1) squeezes_S1x512x1024_S512x1024 fullShare (LB0_at m c 1))) $$ [HO HtS15 HtR21 HsB1 HdB01]
  · isplitr; · iexact HR
    isplitl [HO]; · iexact HO
    isplitl [HtS15]; · iexact HtS15
    isplitl [HtR21]; · iexact HtR21
    isplitl [HsB1]; · iexact HsB1
    rw [owns_squeeze, unsq_sq]; iexact HdB01
  iintro ⟨Hc15, HO⟩
  iapply (ret_step c)
  iapply Hk
  isplitl [HO]; · iexact HO
  isplitl [Hc14]; · iexact Hc14
  iexact Hc15

end Cert.KernelIdeal.Ring

end
-- ==== Proof.IdealB2.lean ====
/-
# The body of the ring, part by part (the ring)

Each part of the kernel body is run from the pieces, positions, tokens and credits it uses to those it leaves, one
rule per effect in program order.
-/
module

public import proofs.«01_k».proof.Proof.IdealPays

@[expose] public section

set_option maxRecDepth 16384
set_option maxHeartbeats 1600000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 33 → ℕ) (c : Dev nD)

/-- The third row block in; the first A landing, its sum stored in place. -/
theorem part6 (w1 : BitVec 32) (Q : _ → sProp 𝕄) :
    iprop(records m K
        ∗ levAts L lv
        ∗ owN c 7
        ∗ pos (c, 0) 1
        ∗ crd (c, 0)
        ∗ pos (c, 8) 0
        ∗ crd (c, 8))
      ⊢ iprop(((owN c 7
          ∗ semVal (kcell (c, 0)) 0
          ∗ owns (c : Thread nD τ) (xP 0) fullShare (X2 m c)
          ∗ rowAt c (h2 c) ((h2 c).view.read (Elt F) (xv m c))
          ∗ semVal (kcell (c, 8)) 0
          ∗ owns (c : Thread nD τ) (cA 0 0) fullShare (SA0 m c 0)) -∗ Q ⟨k0_pay10 (wA m c) (X2 m c), k0_pay11 (wB m c) (X2 m c)⟩)
        -∗ wpc c (k0_part6 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (wA m c) (wB m c)) Q) := by
  simp only [k0_part6_eq_skeleton]; unfold k0_part6_skel
  simp only [semSignalWord, semWaitWord, Prog.lift, Prog.bind_op, Prog.bind_ret, Prog.pure_eq_ret, wp_deviceId]
  iintro ⟨#HR, #HL, HO, Hp0, Hc0, Hp8, Hc8⟩ Hk
  iapply (wait_close m K c 0 (by decide) 1 (dut_x 0 (by decide) 1) (dut_later _) 7 (by decide) rfl rfl
      (dst := xPs 0) (P := iprop(owns (c : Thread nD τ) (xP 0) fullShare (X2 m c) ∗ rowAt c (h2 c) ((h2 c).view.read (Elt F) (xv m c)))) rfl) $$ [HO Hp0 Hc0]
  · isplitr; · iexact HR
    isplitr; · iexact HL
    isplitl [HO]; · iexact HO
    isplitl [Hp0] <;> iassumption
  iintro ⟨HO, Hz0, Hx0, Hh2⟩
  iapply (load_step c (M := xM) (rc := xrect 0) (fun _ => rfl)) $$ Hx0; iintro Hx0
  iapply (wait_close m K c 8 (by decide) 0 (dut_own 8 (by decide)) (dut_once 8 (by decide)) 7 (by decide) rfl rfl
      (dst := cAs 0 0) (P := iprop(owns (c : Thread nD τ) (cA 0 0) fullShare (LA0 m c 0))) rfl) $$ [HO Hp8 Hc8]
  · isplitr; · iexact HR
    isplitr; · iexact HL
    isplitl [HO]; · iexact HO
    isplitl [Hp8] <;> iassumption
  iintro ⟨HO, Hz8, HlA00⟩
  iapply (load_step c (M := cAM) (rc := crect 0 0) (fun _ => rfl)) $$ HlA00; iintro HlA00
  iapply (load_step c (M := cAM) (rc := crect 0 0) (fun _ => rfl)) $$ HlA00; iintro HlA00
  iapply (store_step c (M := cAM) (rc := crect 0 0) (fun _ => rfl) (w := (SA0 m c 0))) $$ HlA00; iintro HlA00
  iapply (ret_step c)
  iapply Hk
  isplitl [HO]; · iexact HO
  isplitl [Hz0]; · iexact Hz0
  isplitl [Hx0]; · iexact Hx0
  isplitl [Hh2]; · iexact Hh2
  isplitl [Hz8]; · iexact Hz8
  iexact HlA00

/-- A landed sum sent on; the next landing, its sum stored in place. -/
theorem part7 (w1 : BitVec 32) (ydA10 : S1x512x1024.Idx → Elt F .bf16) (Q : _ → sProp 𝕄) :
    iprop(records m K
        ∗ levAts L lv
        ∗ owN c 7
        ∗ owns (c : Thread nD τ) (cA 0 0) fullShare (SA0 m c 0)
        ∗ tok (c, 4) 0 0
        ∗ tok (off 3 c, 10) 0 0
        ∗ owns (off 3 c : Thread nD τ) (cA 1 0) fullShare ydA10
        ∗ pos (c, 20) 0
        ∗ crd (c, 20))
      ⊢ iprop(((owN c 8
          ∗ crd (c, 4)
          ∗ semVal (kcell (c, 20)) 0
          ∗ owns (c : Thread nD τ) (cB 0 0) fullShare (SB0 m c 0)) -∗ Q ⟨⟩)
        -∗ wpc c (k0_part7 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (k0_pay11 (wB m c) (X2 m c))) Q) := by
  simp only [k0_part7_eq_skeleton]; unfold k0_part7_skel
  simp only [semSignalWord, semWaitWord, Prog.lift, Prog.bind_op, Prog.bind_ret, Prog.pure_eq_ret, wp_deviceId]
  iintro ⟨#HR, #HL, HO, HlA00, HtS4, HtR10, HdA10, Hp20, Hc20⟩ Hk
  iapply (send_step m K c _ (off 3 c) (dev8_eq c) 4 10 (by decide) (by decide) (dut_own 4 (by decide)) (dut_own 10 (by decide)) 7 rfl rfl rfl
      (src := cAs 0 0) (dst := cAs 1 0) rfl rfl (q := fullShare) (X := (fun j => SA0 m c 0 (Shape.reshapeEquiv squeezes_S1x512x1024_S512x1024.numel_eq j)))
      (Y := fun j => ydA10 (Shape.reshapeEquiv squeezes_S1x512x1024_S512x1024.numel_eq j))
      (any_sq c (cA 0 0) squeezes_S1x512x1024_S512x1024 _) (land_sq (off 3 c) (cA 1 0) squeezes_S1x512x1024_S512x1024 fullShare ((unsq_sq _ _).trans (LA1_at m c 0)))) $$ [HO HtS4 HtR10 HlA00 HdA10]
  · isplitr; · iexact HR
    isplitl [HO]; · iexact HO
    isplitl [HtS4]; · iexact HtS4
    isplitl [HtR10]; · iexact HtR10
    isplitl [HlA00]; · rw [owns_squeeze, unsq_sq]; iexact HlA00
    rw [owns_squeeze, unsq_sq]; iexact HdA10
  iintro ⟨Hc4, HO⟩
  iapply (wait_close m K c 20 (by decide) 0 (dut_own 20 (by decide)) (dut_once 20 (by decide)) 8 (by decide) rfl rfl
      (dst := cBs 0 0) (P := iprop(owns (c : Thread nD τ) (cB 0 0) fullShare (LB0 m c 0))) rfl) $$ [HO Hp20 Hc20]
  · isplitr; · iexact HR
    isplitr; · iexact HL
    isplitl [HO]; · iexact HO
    isplitl [Hp20] <;> iassumption
  iintro ⟨HO, Hz20, HlB00⟩
  iapply (load_step c (M := cBM) (rc := crect 0 0) (fun _ => rfl)) $$ HlB00; iintro HlB00
  iapply (load_step c (M := cBM) (rc := crect 0 0) (fun _ => rfl)) $$ HlB00; iintro HlB00
  iapply (store_step c (M := cBM) (rc := crect 0 0) (fun _ => rfl) (w := (SB0 m c 0))) $$ HlB00; iintro HlB00
  iapply (ret_step c)
  iapply Hk
  isplitl [HO]; · iexact HO
  isplitl [Hc4]; · iexact Hc4
  isplitl [Hz20]; · iexact Hz20
  iexact HlB00

/-- A landed sum sent on; the next landing, its sum stored in place. -/
theorem part8 (w1 : BitVec 32) (ydB10 : S1x512x1024.Idx → Elt F .bf16) (Q : _ → sProp 𝕄) :
    iprop(records m K
        ∗ levAts L lv
        ∗ owN c 8
        ∗ owns (c : Thread nD τ) (cB 0 0) fullShare (SB0 m c 0)
        ∗ tok (c, 16) 0 0
        ∗ tok (off 1 c, 22) 0 0
        ∗ owns (off 1 c : Thread nD τ) (cB 1 0) fullShare ydB10
        ∗ pos (c, 9) 0
        ∗ crd (c, 9))
      ⊢ iprop(((owN c 9
          ∗ crd (c, 16)
          ∗ semVal (kcell (c, 9)) 0
          ∗ owns (c : Thread nD τ) (cA 0 1) fullShare (SA0 m c 1)) -∗ Q ⟨⟩)
        -∗ wpc c (k0_part8 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (k0_pay10 (wA m c) (X2 m c))) Q) := by
  simp only [k0_part8_eq_skeleton]; unfold k0_part8_skel
  simp only [semSignalWord, semWaitWord, Prog.lift, Prog.bind_op, Prog.bind_ret, Prog.pure_eq_ret, wp_deviceId]
  iintro ⟨#HR, #HL, HO, HlB00, HtS16, HtR22, HdB10, Hp9, Hc9⟩ Hk
  iapply (send_step m K c _ (off 1 c) (dev9_eq c) 16 22 (by decide) (by decide) (dut_own 16 (by decide)) (dut_own 22 (by decide)) 8 rfl rfl rfl
      (src := cBs 0 0) (dst := cBs 1 0) rfl rfl (q := fullShare) (X := (fun j => SB0 m c 0 (Shape.reshapeEquiv squeezes_S1x512x1024_S512x1024.numel_eq j)))
      (Y := fun j => ydB10 (Shape.reshapeEquiv squeezes_S1x512x1024_S512x1024.numel_eq j))
      (any_sq c (cB 0 0) squeezes_S1x512x1024_S512x1024 _) (land_sq (off 1 c) (cB 1 0) squeezes_S1x512x1024_S512x1024 fullShare ((unsq_sq _ _).trans (LB1_at m c 0)))) $$ [HO HtS16 HtR22 HlB00 HdB10]
  · isplitr; · iexact HR
    isplitl [HO]; · iexact HO
    isplitl [HtS16]; · iexact HtS16
    isplitl [HtR22]; · iexact HtR22
    isplitl [HlB00]; · rw [owns_squeeze, unsq_sq]; iexact HlB00
    rw [owns_squeeze, unsq_sq]; iexact HdB10
  iintro ⟨Hc16, HO⟩
  iapply (wait_close m K c 9 (by decide) 0 (dut_own 9 (by decide)) (dut_once 9 (by decide)) 9 (by decide) rfl rfl
      (dst := cAs 0 1) (P := iprop(owns (c : Thread nD τ) (cA 0 1) fullShare (LA0 m c 1))) rfl) $$ [HO Hp9 Hc9]
  · isplitr; · iexact HR
    isplitr; · iexact HL
    isplitl [HO]; · iexact HO
    isplitl [Hp9] <;> iassumption
  iintro ⟨HO, Hz9, HlA01⟩
  iapply (load_step c (M := cAM) (rc := crect 0 1) (fun _ => rfl)) $$ HlA01; iintro HlA01
  iapply (load_step c (M := cAM) (rc := crect 0 1) (fun _ => rfl)) $$ HlA01; iintro HlA01
  iapply (store_step c (M := cAM) (rc := crect 0 1) (fun _ => rfl) (w := (SA0 m c 1))) $$ HlA01; iintro HlA01
  iapply (ret_step c)
  iapply Hk
  isplitl [HO]; · iexact HO
  isplitl [Hc16]; · iexact Hc16
  isplitl [Hz9]; · iexact Hz9
  iexact HlA01

/-- A landed sum sent on; the next landing, its sum stored in place. -/
theorem part9 (w1 : BitVec 32) (ydA11 : S1x512x1024.Idx → Elt F .bf16) (Q : _ → sProp 𝕄) :
    iprop(records m K
        ∗ levAts L lv
        ∗ owN c 9
        ∗ owns (c : Thread nD τ) (cA 0 1) fullShare (SA0 m c 1)
        ∗ tok (c, 5) 0 0
        ∗ tok (off 3 c, 11) 0 0
        ∗ owns (off 3 c : Thread nD τ) (cA 1 1) fullShare ydA11
        ∗ pos (c, 21) 0
        ∗ crd (c, 21))
      ⊢ iprop(((owN c 10
          ∗ crd (c, 5)
          ∗ semVal (kcell (c, 21)) 0
          ∗ owns (c : Thread nD τ) (cB 0 1) fullShare (SB0 m c 1)) -∗ Q ⟨⟩)
        -∗ wpc c (k0_part9 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (k0_pay11 (wB m c) (X2 m c))) Q) := by
  simp only [k0_part9_eq_skeleton]; unfold k0_part9_skel
  simp only [semSignalWord, semWaitWord, Prog.lift, Prog.bind_op, Prog.bind_ret, Prog.pure_eq_ret, wp_deviceId]
  iintro ⟨#HR, #HL, HO, HlA01, HtS5, HtR11, HdA11, Hp21, Hc21⟩ Hk
  iapply (send_step m K c _ (off 3 c) (dev10_eq c) 5 11 (by decide) (by decide) (dut_own 5 (by decide)) (dut_own 11 (by decide)) 9 rfl rfl rfl
      (src := cAs 0 1) (dst := cAs 1 1) rfl rfl (q := fullShare) (X := (fun j => SA0 m c 1 (Shape.reshapeEquiv squeezes_S1x512x1024_S512x1024.numel_eq j)))
      (Y := fun j => ydA11 (Shape.reshapeEquiv squeezes_S1x512x1024_S512x1024.numel_eq j))
      (any_sq c (cA 0 1) squeezes_S1x512x1024_S512x1024 _) (land_sq (off 3 c) (cA 1 1) squeezes_S1x512x1024_S512x1024 fullShare ((unsq_sq _ _).trans (LA1_at m c 1)))) $$ [HO HtS5 HtR11 HlA01 HdA11]
  · isplitr; · iexact HR
    isplitl [HO]; · iexact HO
    isplitl [HtS5]; · iexact HtS5
    isplitl [HtR11]; · iexact HtR11
    isplitl [HlA01]; · rw [owns_squeeze, unsq_sq]; iexact HlA01
    rw [owns_squeeze, unsq_sq]; iexact HdA11
  iintro ⟨Hc5, HO⟩
  iapply (wait_close m K c 21 (by decide) 0 (dut_own 21 (by decide)) (dut_once 21 (by decide)) 10 (by decide) rfl rfl
      (dst := cBs 0 1) (P := iprop(owns (c : Thread nD τ) (cB 0 1) fullShare (LB0 m c 1))) rfl) $$ [HO Hp21 Hc21]
  · isplitr; · iexact HR
    isplitr; · iexact HL
    isplitl [HO]; · iexact HO
    isplitl [Hp21] <;> iassumption
  iintro ⟨HO, Hz21, HlB01⟩
  iapply (load_step c (M := cBM) (rc := crect 0 1) (fun _ => rfl)) $$ HlB01; iintro HlB01
  iapply (load_step c (M := cBM) (rc := crect 0 1) (fun _ => rfl)) $$ HlB01; iintro HlB01
  iapply (store_step c (M := cBM) (rc := crect 0 1) (fun _ => rfl) (w := (SB0 m c 1))) $$ HlB01; iintro HlB01
  iapply (ret_step c)
  iapply Hk
  isplitl [HO]; · iexact HO
  isplitl [Hc5]; · iexact Hc5
  isplitl [Hz21]; · iexact Hz21
  iexact HlB01

/-- A landed sum sent on; the next landing, its sum stored in place. -/
theorem part10 (w1 : BitVec 32) (ydB11 : S1x512x1024.Idx → Elt F .bf16) (Q : _ → sProp 𝕄) :
    iprop(records m K
        ∗ levAts L lv
        ∗ owN c 10
        ∗ owns (c : Thread nD τ) (cB 0 1) fullShare (SB0 m c 1)
        ∗ tok (c, 17) 0 0
        ∗ tok (off 1 c, 23) 0 0
        ∗ owns (off 1 c : Thread nD τ) (cB 1 1) fullShare ydB11
        ∗ pos (c, 10) 0
        ∗ crd (c, 10))
      ⊢ iprop(((owN c 11
          ∗ crd (c, 17)
          ∗ semVal (kcell (c, 10)) 0
          ∗ owns (c : Thread nD τ) (cA 1 0) fullShare (SA1 m c 0)) -∗ Q ⟨k0_pay16 (wA m c) (k0_pay6 (X3 m c)), k0_pay17 (wB m c) (k0_pay3 (X1 m c))⟩)
        -∗ wpc c (k0_part10 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (wA m c) (wB m c) (k0_pay3 (X1 m c)) (k0_pay6 (X3 m c))) Q) := by
  simp only [k0_part10_eq_skeleton]; unfold k0_part10_skel
  simp only [semSignalWord, semWaitWord, Prog.lift, Prog.bind_op, Prog.bind_ret, Prog.pure_eq_ret, wp_deviceId]
  iintro ⟨#HR, #HL, HO, HlB01, HtS17, HtR23, HdB11, Hp10, Hc10⟩ Hk
  iapply (send_step m K c _ (off 1 c) (dev11_eq c) 17 23 (by decide) (by decide) (dut_own 17 (by decide)) (dut_own 23 (by decide)) 10 rfl rfl rfl
      (src := cBs 0 1) (dst := cBs 1 1) rfl rfl (q := fullShare) (X := (fun j => SB0 m c 1 (Shape.reshapeEquiv squeezes_S1x512x1024_S512x1024.numel_eq j)))
      (Y := fun j => ydB11 (Shape.reshapeEquiv squeezes_S1x512x1024_S512x1024.numel_eq j))
      (any_sq c (cB 0 1) squeezes_S1x512x1024_S512x1024 _) (land_sq (off 1 c) (cB 1 1) squeezes_S1x512x1024_S512x1024 fullShare ((unsq_sq _ _).trans (LB1_at m c 1)))) $$ [HO HtS17 HtR23 HlB01 HdB11]
  · isplitr; · iexact HR
    isplitl [HO]; · iexact HO
    isplitl [HtS17]; · iexact HtS17
    isplitl [HtR23]; · iexact HtR23
    isplitl [HlB01]; · rw [owns_squeeze, unsq_sq]; iexact HlB01
    rw [owns_squeeze, unsq_sq]; iexact HdB11
  iintro ⟨Hc17, HO⟩
  iapply (wait_close m K c 10 (by decide) 0 (dut_own 10 (by decide)) (dut_once 10 (by decide)) 11 (by decide) rfl rfl
      (dst := cAs 1 0) (P := iprop(owns (c : Thread nD τ) (cA 1 0) fullShare (LA1 m c 0))) rfl) $$ [HO Hp10 Hc10]
  · isplitr; · iexact HR
    isplitr; · iexact HL
    isplitl [HO]; · iexact HO
    isplitl [Hp10] <;> iassumption
  iintro ⟨HO, Hz10, HlA10⟩
  iapply (load_step c (M := cAM) (rc := crect 1 0) (fun _ => rfl)) $$ HlA10; iintro HlA10
  iapply (load_step c (M := cAM) (rc := crect 1 0) (fun _ => rfl)) $$ HlA10; iintro HlA10
  iapply (store_step c (M := cAM) (rc := crect 1 0) (fun _ => rfl) (w := (SA1 m c 0))) $$ HlA10; iintro HlA10
  iapply (ret_step c)
  iapply Hk
  isplitl [HO]; · iexact HO
  isplitl [Hc17]; · iexact Hc17
  isplitl [Hz10]; · iexact Hz10
  iexact HlA10

/-- A landed sum sent on; the next landing, its sum stored in place. -/
theorem part11 (w1 : BitVec 32) (ydA20 : S1x512x1024.Idx → Elt F .bf16) (Q : _ → sProp 𝕄) :
    iprop(records m K
        ∗ levAts L lv
        ∗ owN c 11
        ∗ owns (c : Thread nD τ) (cA 1 0) fullShare (SA1 m c 0)
        ∗ tok (c, 6) 0 0
        ∗ tok (off 3 c, 12) 0 0
        ∗ owns (off 3 c : Thread nD τ) (cA 2 0) fullShare ydA20
        ∗ pos (c, 22) 0
        ∗ crd (c, 22))
      ⊢ iprop(((owN c 12
          ∗ crd (c, 6)
          ∗ semVal (kcell (c, 22)) 0
          ∗ owns (c : Thread nD τ) (cB 1 0) fullShare (SB1 m c 0)) -∗ Q ⟨⟩)
        -∗ wpc c (k0_part11 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (k0_pay17 (wB m c) (k0_pay3 (X1 m c)))) Q) := by
  simp only [k0_part11_eq_skeleton]; unfold k0_part11_skel
  simp only [semSignalWord, semWaitWord, Prog.lift, Prog.bind_op, Prog.bind_ret, Prog.pure_eq_ret, wp_deviceId]
  iintro ⟨#HR, #HL, HO, HlA10, HtS6, HtR12, HdA20, Hp22, Hc22⟩ Hk
  iapply (send_step m K c _ (off 3 c) (dev12_eq c) 6 12 (by decide) (by decide) (dut_own 6 (by decide)) (dut_own 12 (by decide)) 11 rfl rfl rfl
      (src := cAs 1 0) (dst := cAs 2 0) rfl rfl (q := fullShare) (X := (fun j => SA1 m c 0 (Shape.reshapeEquiv squeezes_S1x512x1024_S512x1024.numel_eq j)))
      (Y := fun j => ydA20 (Shape.reshapeEquiv squeezes_S1x512x1024_S512x1024.numel_eq j))
      (any_sq c (cA 1 0) squeezes_S1x512x1024_S512x1024 _) (land_sq (off 3 c) (cA 2 0) squeezes_S1x512x1024_S512x1024 fullShare ((unsq_sq _ _).trans (LA2_at m c 0)))) $$ [HO HtS6 HtR12 HlA10 HdA20]
  · isplitr; · iexact HR
    isplitl [HO]; · iexact HO
    isplitl [HtS6]; · iexact HtS6
    isplitl [HtR12]; · iexact HtR12
    isplitl [HlA10]; · rw [owns_squeeze, unsq_sq]; iexact HlA10
    rw [owns_squeeze, unsq_sq]; iexact HdA20
  iintro ⟨Hc6, HO⟩
  iapply (wait_close m K c 22 (by decide) 0 (dut_own 22 (by decide)) (dut_once 22 (by decide)) 12 (by decide) rfl rfl
      (dst := cBs 1 0) (P := iprop(owns (c : Thread nD τ) (cB 1 0) fullShare (LB1 m c 0))) rfl) $$ [HO Hp22 Hc22]
  · isplitr; · iexact HR
    isplitr; · iexact HL
    isplitl [HO]; · iexact HO
    isplitl [Hp22] <;> iassumption
  iintro ⟨HO, Hz22, HlB10⟩
  iapply (load_step c (M := cBM) (rc := crect 1 0) (fun _ => rfl)) $$ HlB10; iintro HlB10
  iapply (load_step c (M := cBM) (rc := crect 1 0) (fun _ => rfl)) $$ HlB10; iintro HlB10
  iapply (store_step c (M := cBM) (rc := crect 1 0) (fun _ => rfl) (w := (SB1 m c 0))) $$ HlB10; iintro HlB10
  iapply (ret_step c)
  iapply Hk
  isplitl [HO]; · iexact HO
  isplitl [Hc6]; · iexact Hc6
  isplitl [Hz22]; · iexact Hz22
  iexact HlB10

/-- A landed sum sent on; the next landing, its sum stored in place. -/
theorem part12 (w1 : BitVec 32) (ydB20 : S1x512x1024.Idx → Elt F .bf16) (Q : _ → sProp 𝕄) :
    iprop(records m K
        ∗ levAts L lv
        ∗ owN c 12
        ∗ owns (c : Thread nD τ) (cB 1 0) fullShare (SB1 m c 0)
        ∗ tok (c, 18) 0 0
        ∗ tok (off 1 c, 24) 0 0
        ∗ owns (off 1 c : Thread nD τ) (cB 2 0) fullShare ydB20
        ∗ pos (c, 11) 0
        ∗ crd (c, 11))
      ⊢ iprop(((owN c 13
          ∗ crd (c, 18)
          ∗ semVal (kcell (c, 11)) 0
          ∗ owns (c : Thread nD τ) (cA 1 1) fullShare (SA1 m c 1)) -∗ Q ⟨⟩)
        -∗ wpc c (k0_part12 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (k0_pay16 (wA m c) (k0_pay6 (X3 m c)))) Q) := by
  simp only [k0_part12_eq_skeleton]; unfold k0_part12_skel
  simp only [semSignalWord, semWaitWord, Prog.lift, Prog.bind_op, Prog.bind_ret, Prog.pure_eq_ret, wp_deviceId]
  iintro ⟨#HR, #HL, HO, HlB10, HtS18, HtR24, HdB20, Hp11, Hc11⟩ Hk
  iapply (send_step m K c _ (off 1 c) (dev13_eq c) 18 24 (by decide) (by decide) (dut_own 18 (by decide)) (dut_own 24 (by decide)) 12 rfl rfl rfl
      (src := cBs 1 0) (dst := cBs 2 0) rfl rfl (q := fullShare) (X := (fun j => SB1 m c 0 (Shape.reshapeEquiv squeezes_S1x512x1024_S512x1024.numel_eq j)))
      (Y := fun j => ydB20 (Shape.reshapeEquiv squeezes_S1x512x1024_S512x1024.numel_eq j))
      (any_sq c (cB 1 0) squeezes_S1x512x1024_S512x1024 _) (land_sq (off 1 c) (cB 2 0) squeezes_S1x512x1024_S512x1024 fullShare ((unsq_sq _ _).trans (LB2_at m c 0)))) $$ [HO HtS18 HtR24 HlB10 HdB20]
  · isplitr; · iexact HR
    isplitl [HO]; · iexact HO
    isplitl [HtS18]; · iexact HtS18
    isplitl [HtR24]; · iexact HtR24
    isplitl [HlB10]; · rw [owns_squeeze, unsq_sq]; iexact HlB10
    rw [owns_squeeze, unsq_sq]; iexact HdB20
  iintro ⟨Hc18, HO⟩
  iapply (wait_close m K c 11 (by decide) 0 (dut_own 11 (by decide)) (dut_once 11 (by decide)) 13 (by decide) rfl rfl
      (dst := cAs 1 1) (P := iprop(owns (c : Thread nD τ) (cA 1 1) fullShare (LA1 m c 1))) rfl) $$ [HO Hp11 Hc11]
  · isplitr; · iexact HR
    isplitr; · iexact HL
    isplitl [HO]; · iexact HO
    isplitl [Hp11] <;> iassumption
  iintro ⟨HO, Hz11, HlA11⟩
  iapply (load_step c (M := cAM) (rc := crect 1 1) (fun _ => rfl)) $$ HlA11; iintro HlA11
  iapply (load_step c (M := cAM) (rc := crect 1 1) (fun _ => rfl)) $$ HlA11; iintro HlA11
  iapply (store_step c (M := cAM) (rc := crect 1 1) (fun _ => rfl) (w := (SA1 m c 1))) $$ HlA11; iintro HlA11
  iapply (ret_step c)
  iapply Hk
  isplitl [HO]; · iexact HO
  isplitl [Hc18]; · iexact Hc18
  isplitl [Hz11]; · iexact Hz11
  iexact HlA11

/-- A landed sum sent on; the next landing, its sum stored in place. -/
theorem part13 (w1 : BitVec 32) (ydA21 : S1x512x1024.Idx → Elt F .bf16) (Q : _ → sProp 𝕄) :
    iprop(records m K
        ∗ levAts L lv
        ∗ owN c 13
        ∗ owns (c : Thread nD τ) (cA 1 1) fullShare (SA1 m c 1)
        ∗ tok (c, 7) 0 0
        ∗ tok (off 3 c, 13) 0 0
        ∗ owns (off 3 c : Thread nD τ) (cA 2 1) fullShare ydA21
        ∗ pos (c, 23) 0
        ∗ crd (c, 23))
      ⊢ iprop(((owN c 14
          ∗ crd (c, 7)
          ∗ semVal (kcell (c, 23)) 0
          ∗ owns (c : Thread nD τ) (cB 1 1) fullShare (SB1 m c 1)) -∗ Q ⟨⟩)
        -∗ wpc c (k0_part13 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (k0_pay17 (wB m c) (k0_pay3 (X1 m c)))) Q) := by
  simp only [k0_part13_eq_skeleton]; unfold k0_part13_skel
  simp only [semSignalWord, semWaitWord, Prog.lift, Prog.bind_op, Prog.bind_ret, Prog.pure_eq_ret, wp_deviceId]
  iintro ⟨#HR, #HL, HO, HlA11, HtS7, HtR13, HdA21, Hp23, Hc23⟩ Hk
  iapply (send_step m K c _ (off 3 c) (dev14_eq c) 7 13 (by decide) (by decide) (dut_own 7 (by decide)) (dut_own 13 (by decide)) 13 rfl rfl rfl
      (src := cAs 1 1) (dst := cAs 2 1) rfl rfl (q := fullShare) (X := (fun j => SA1 m c 1 (Shape.reshapeEquiv squeezes_S1x512x1024_S512x1024.numel_eq j)))
      (Y := fun j => ydA21 (Shape.reshapeEquiv squeezes_S1x512x1024_S512x1024.numel_eq j))
      (any_sq c (cA 1 1) squeezes_S1x512x1024_S512x1024 _) (land_sq (off 3 c) (cA 2 1) squeezes_S1x512x1024_S512x1024 fullShare ((unsq_sq _ _).trans (LA2_at m c 1)))) $$ [HO HtS7 HtR13 HlA11 HdA21]
  · isplitr; · iexact HR
    isplitl [HO]; · iexact HO
    isplitl [HtS7]; · iexact HtS7
    isplitl [HtR13]; · iexact HtR13
    isplitl [HlA11]; · rw [owns_squeeze, unsq_sq]; iexact HlA11
    rw [owns_squeeze, unsq_sq]; iexact HdA21
  iintro ⟨Hc7, HO⟩
  iapply (wait_close m K c 23 (by decide) 0 (dut_own 23 (by decide)) (dut_once 23 (by decide)) 14 (by decide) rfl rfl
      (dst := cBs 1 1) (P := iprop(owns (c : Thread nD τ) (cB 1 1) fullShare (LB1 m c 1))) rfl) $$ [HO Hp23 Hc23]
  · isplitr; · iexact HR
    isplitr; · iexact HL
    isplitl [HO]; · iexact HO
    isplitl [Hp23] <;> iassumption
  iintro ⟨HO, Hz23, HlB11⟩
  iapply (load_step c (M := cBM) (rc := crect 1 1) (fun _ => rfl)) $$ HlB11; iintro HlB11
  iapply (load_step c (M := cBM) (rc := crect 1 1) (fun _ => rfl)) $$ HlB11; iintro HlB11
  iapply (store_step c (M := cBM) (rc := crect 1 1) (fun _ => rfl) (w := (SB1 m c 1))) $$ HlB11; iintro HlB11
  iapply (ret_step c)
  iapply Hk
  isplitl [HO]; · iexact HO
  isplitl [Hc7]; · iexact Hc7
  isplitl [Hz23]; · iexact Hz23
  iexact HlB11

end Cert.KernelIdeal.Ring

end
-- ==== Proof.IdealB3.lean ====
/-
# The body of the ring, part by part (the last landings)

Each part of the kernel body is run from the pieces, positions, tokens and credits it uses to those it leaves, one
rule per effect in program order.
-/
module

public import proofs.«01_k».proof.Proof.IdealPays

@[expose] public section

set_option maxRecDepth 16384
set_option maxHeartbeats 1600000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 33 → ℕ) (c : Dev nD)

/-- The last transfer of the ring; the own row block in, the first of the last A landings. -/
theorem part14 (w1 w2 : BitVec 32) (ydB21 : S1x512x1024.Idx → Elt F .bf16) (Q : _ → sProp 𝕄) :
    iprop(records m K
        ∗ levAts L lv
        ∗ owN c 14
        ∗ owns (c : Thread nD τ) (cB 1 1) fullShare (SB1 m c 1)
        ∗ tok (c, 19) 0 0
        ∗ tok (off 1 c, 25) 0 0
        ∗ owns (off 1 c : Thread nD τ) (cB 2 1) fullShare ydB21
        ∗ pos (c, 1) 1
        ∗ crd (c, 1)
        ∗ pos (c, 12) 0
        ∗ crd (c, 12))
      ⊢ iprop(((owN c 15
          ∗ crd (c, 19)
          ∗ semVal (kcell (c, 1)) 0
          ∗ owns (c : Thread nD τ) (xP 1) fullShare (X0 m c)
          ∗ rowAt c (h0 c) ((h0 c).view.read (Elt F) (xv m c))
          ∗ semVal (kcell (c, 12)) 0
          ∗ owns (c : Thread nD τ) (cA 2 0) fullShare (LA2 m c 0)) -∗ Q ⟨v371 m c, v372 m c, v383 m c, v384 m c⟩)
        -∗ wpc c (k0_part14 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 w2 (wA m c) (wB m c)) Q) := by
  simp only [k0_part14_eq_skeleton]; unfold k0_part14_skel
  simp only [semSignalWord, semWaitWord, Prog.lift, Prog.bind_op, Prog.bind_ret, Prog.pure_eq_ret, wp_deviceId]
  unfold v371 v372 v383 v384
  iintro ⟨#HR, #HL, HO, HlB11, HtS19, HtR25, HdB21, Hp1, Hc1, Hp12, Hc12⟩ Hk
  iapply (send_step m K c _ (off 1 c) (dev15_eq c) 19 25 (by decide) (by decide) (dut_own 19 (by decide)) (dut_own 25 (by decide)) 14 rfl rfl rfl
      (src := cBs 1 1) (dst := cBs 2 1) rfl rfl (q := fullShare) (X := (fun j => SB1 m c 1 (Shape.reshapeEquiv squeezes_S1x512x1024_S512x1024.numel_eq j)))
      (Y := fun j => ydB21 (Shape.reshapeEquiv squeezes_S1x512x1024_S512x1024.numel_eq j))
      (any_sq c (cB 1 1) squeezes_S1x512x1024_S512x1024 _) (land_sq (off 1 c) (cB 2 1) squeezes_S1x512x1024_S512x1024 fullShare ((unsq_sq _ _).trans (LB2_at m c 1)))) $$ [HO HtS19 HtR25 HlB11 HdB21]
  · isplitr; · iexact HR
    isplitl [HO]; · iexact HO
    isplitl [HtS19]; · iexact HtS19
    isplitl [HtR25]; · iexact HtR25
    isplitl [HlB11]; · rw [owns_squeeze, unsq_sq]; iexact HlB11
    rw [owns_squeeze, unsq_sq]; iexact HdB21
  iintro ⟨Hc19, HO⟩
  iapply (wait_close m K c 1 (by decide) 1 (dut_x 1 (by decide) 1) (dut_later _) 15 (by decide) rfl rfl
      (dst := xPs 1) (P := iprop(owns (c : Thread nD τ) (xP 1) fullShare (X0 m c) ∗ rowAt c (h0 c) ((h0 c).view.read (Elt F) (xv m c)))) rfl) $$ [HO Hp1 Hc1]
  · isplitr; · iexact HR
    isplitr; · iexact HL
    isplitl [HO]; · iexact HO
    isplitl [Hp1] <;> iassumption
  iintro ⟨HO, Hz1, Hx1, Hh0⟩
  iapply (load_step c (M := xM) (rc := xrect 1) (fun _ => rfl)) $$ Hx1; iintro Hx1
  iapply (wait_close m K c 12 (by decide) 0 (dut_own 12 (by decide)) (dut_once 12 (by decide)) 15 (by decide) rfl rfl
      (dst := cAs 2 0) (P := iprop(owns (c : Thread nD τ) (cA 2 0) fullShare (LA2 m c 0))) rfl) $$ [HO Hp12 Hc12]
  · isplitr; · iexact HR
    isplitr; · iexact HL
    isplitl [HO]; · iexact HO
    isplitl [Hp12] <;> iassumption
  iintro ⟨HO, Hz12, HlA20⟩
  iapply (load_step c (M := cAM) (rc := crect 2 0) (fun _ => rfl)) $$ HlA20; iintro HlA20
  iapply (ret_step c)
  iapply Hk
  isplitl [HO]; · iexact HO
  isplitl [Hc19]; · iexact Hc19
  isplitl [Hz1]; · iexact Hz1
  isplitl [Hx1]; · iexact Hx1
  isplitl [Hh0]; · iexact Hh0
  isplitl [Hz12]; · iexact Hz12
  iexact HlA20

/-- The first quarter of the result stored; the next landing; the second quarter stored. -/
theorem part15 (f : (cc0_stg1_0 : Ref sig .tc).ty.Contents (Elt F)) (w1 w2 : BitVec 32) (Q : _ → sProp 𝕄) :
    iprop(records m K
        ∗ levAts L lv
        ∗ owN c 15
        ∗ ((c : Thread nD τ).loc cc0_stg1_0 ↦{fullShare} f)
        ∗ pos (c, 24) 0
        ∗ crd (c, 24))
      ⊢ iprop((∀ v411, (owN c 15
          ∗ semVal (kcell (c, 24)) 0
          ∗ owns (c : Thread nD τ) (cB 2 0) fullShare (LB2 m c 0)
          ∗ ((c : Thread nD τ).loc cc0_stg1_0 ↦{fullShare} (o2 m c f))) -∗ Q ⟨v410 m c, v411, 0#32⟩)
        -∗ wpc c (k0_part15 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 w1 w2 (v372 m c) (v383 m c) (v384 m c)) Q) := by
  simp only [k0_part15_eq_skeleton]; unfold k0_part15_skel
  simp only [semSignalWord, semWaitWord, Prog.lift, Prog.bind_op, Prog.bind_ret, Prog.pure_eq_ret, wp_deviceId]
  unfold v410 o2 o1
  iintro ⟨#HR, #HL, HO, Hout, Hp24, Hc24⟩ Hk
  iapply (wp_load 𝒱₀ (c : Thread nD τ) none Set.univ (m := oM) (Finset.subset_univ _)) $$ Hout; iintro Hout
  iapply (wp_store 𝒱₀ (c : Thread nD τ) none Set.univ (m := oM) (r := orect00) (Mk := Finset.univ) (Finset.subset_univ _)) $$ Hout; iintro Hout
  iapply (wait_close m K c 24 (by decide) 0 (dut_own 24 (by decide)) (dut_once 24 (by decide)) 15 (by decide) rfl rfl
      (dst := cBs 2 0) (P := iprop(owns (c : Thread nD τ) (cB 2 0) fullShare (LB2 m c 0))) rfl) $$ [HO Hp24 Hc24]
  · isplitr; · iexact HR
    isplitr; · iexact HL
    isplitl [HO]; · iexact HO
    isplitl [Hp24] <;> iassumption
  iintro ⟨HO, Hz24, HlB20⟩
  iapply (load_step c (M := cBM) (rc := crect 2 0) (fun _ => rfl)) $$ HlB20; iintro HlB20
  iapply (wp_load 𝒱₀ (c : Thread nD τ) none Set.univ (m := oM) (Finset.subset_univ _)) $$ Hout; iintro Hout
  iapply (wp_store 𝒱₀ (c : Thread nD τ) none Set.univ (m := oM) (r := orect01) (Mk := Finset.univ) (Finset.subset_univ _)) $$ Hout; iintro Hout
  iapply (ret_step c)
  iapply Hk
  isplitl [HO]; · iexact HO
  isplitl [Hz24]; · iexact Hz24
  isplitl [HlB20]; · iexact HlB20
  iexact Hout

/-- The third quarter stored between the last two landings. -/
theorem part16 (f : (cc0_stg1_0 : Ref sig .tc).ty.Contents (Elt F)) (w1 w2 w3 : BitVec 32) (Q : _ → sProp 𝕄) :
    iprop(records m K
        ∗ levAts L lv
        ∗ owN c 15
        ∗ pos (c, 13) 0
        ∗ crd (c, 13)
        ∗ ((c : Thread nD τ).loc cc0_stg1_0 ↦{fullShare} (o2 m c f))
        ∗ pos (c, 25) 0
        ∗ crd (c, 25))
      ⊢ iprop(((owN c 15
          ∗ semVal (kcell (c, 13)) 0
          ∗ owns (c : Thread nD τ) (cA 2 1) fullShare (LA2 m c 1)
          ∗ ((c : Thread nD τ).loc cc0_stg1_0 ↦{fullShare} (o3 m c f))
          ∗ semVal (kcell (c, 25)) 0
          ∗ owns (c : Thread nD τ) (cB 2 1) fullShare (LB2 m c 1)) -∗ Q ⟨v429 m c, v442 m c⟩)
        -∗ wpc c (k0_part16 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 w1 (v371 m c) (v372 m c) (v410 m c) w2 w3) Q) := by
  simp only [k0_part16_eq_skeleton]; unfold k0_part16_skel
  simp only [semSignalWord, semWaitWord, Prog.lift, Prog.bind_op, Prog.bind_ret, Prog.pure_eq_ret, wp_deviceId]
  unfold v429 v442 o3
  iintro ⟨#HR, #HL, HO, Hp13, Hc13, Hout, Hp25, Hc25⟩ Hk
  iapply (wait_close m K c 13 (by decide) 0 (dut_own 13 (by decide)) (dut_once 13 (by decide)) 15 (by decide) rfl rfl
      (dst := cAs 2 1) (P := iprop(owns (c : Thread nD τ) (cA 2 1) fullShare (LA2 m c 1))) rfl) $$ [HO Hp13 Hc13]
  · isplitr; · iexact HR
    isplitr; · iexact HL
    isplitl [HO]; · iexact HO
    isplitl [Hp13] <;> iassumption
  iintro ⟨HO, Hz13, HlA21⟩
  iapply (load_step c (M := cAM) (rc := crect 2 1) (fun _ => rfl)) $$ HlA21; iintro HlA21
  iapply (wp_load 𝒱₀ (c : Thread nD τ) none Set.univ (m := oM) (Finset.subset_univ _)) $$ Hout; iintro Hout
  iapply (wp_store 𝒱₀ (c : Thread nD τ) none Set.univ (m := oM) (r := orect10) (Mk := Finset.univ) (Finset.subset_univ _)) $$ Hout; iintro Hout
  iapply (wait_close m K c 25 (by decide) 0 (dut_own 25 (by decide)) (dut_once 25 (by decide)) 15 (by decide) rfl rfl
      (dst := cBs 2 1) (P := iprop(owns (c : Thread nD τ) (cB 2 1) fullShare (LB2 m c 1))) rfl) $$ [HO Hp25 Hc25]
  · isplitr; · iexact HR
    isplitr; · iexact HL
    isplitl [HO]; · iexact HO
    isplitl [Hp25] <;> iassumption
  iintro ⟨HO, Hz25, HlB21⟩
  iapply (load_step c (M := cBM) (rc := crect 2 1) (fun _ => rfl)) $$ HlB21; iintro HlB21
  iapply (ret_step c)
  iapply Hk
  isplitl [HO]; · iexact HO
  isplitl [Hz13]; · iexact Hz13
  isplitl [HlA21]; · iexact HlA21
  isplitl [Hout]; · iexact Hout
  isplitl [Hz25]; · iexact Hz25
  iexact HlB21

/-- The last quarter stored; the own maximum stored and its first transfer. -/
theorem part17 (f : (cc0_stg1_0 : Ref sig .tc).ty.Contents (Elt F)) (z3 : S1x8x128.Idx → Elt F .f32) (w1 : BitVec 32) (ydm0 : S1x8x128.Idx → Elt F .f32) (Q : _ → sProp 𝕄) :
    iprop(records m K
        ∗ owN c 15
        ∗ ((c : Thread nD τ).loc cc0_stg1_0 ↦{fullShare} (o3 m c f))
        ∗ owns (c : Thread nD τ) (mP 3) fullShare z3
        ∗ tok (c, 26) 0 0
        ∗ tok (off 1 c, 29) 0 0
        ∗ owns (off 1 c : Thread nD τ) (mP 0) fullShare ydm0)
      ⊢ iprop((∀ w455 w468, (owN c 16
          ∗ ((c : Thread nD τ).loc cc0_stg1_0 ↦{fullShare} (o4 m c f))
          ∗ owns (c : Thread nD τ) (mP 3) (shr 1) (am m c)
          ∗ owns (c : Thread nD τ) (mP 3) (shr 2) (am m c)
          ∗ crd (c, 26)) -∗ Q ⟨w455, w468⟩)
        -∗ wpc c (k0_part17 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 (v429 m c) (v442 m c)) Q) := by
  simp only [k0_part17_eq_skeleton]; unfold k0_part17_skel
  simp only [semSignalWord, semWaitWord, Prog.lift, Prog.bind_op, Prog.bind_ret, Prog.pure_eq_ret, wp_deviceId]
  unfold o4
  iintro ⟨#HR, HO, Hout, Hm3, HtS26, HtR29, Hdm0⟩ Hk
  iapply (wp_load 𝒱₀ (c : Thread nD τ) none Set.univ (m := oM) (Finset.subset_univ _)) $$ Hout; iintro Hout
  iapply (wp_store 𝒱₀ (c : Thread nD τ) none Set.univ (m := oM) (r := orect11) (Mk := Finset.univ) (Finset.subset_univ _)) $$ Hout; iintro Hout
  iapply (load_step c (M := mM) (rc := mrect 3) (fun _ => rfl)) $$ Hm3; iintro Hm3
  iapply (store_step c (M := mM) (rc := mrect 3) (fun _ => rfl) (w := (am m c))) $$ Hm3; iintro Hm3
  ihave Hcut := (owns_cut c (mP 3) fullShare (am m c)) $$ Hm3
  icases Hcut with ⟨Hm30, Hm3r⟩
  ihave Hcut := (owns_cut c (mP 3) fullShare.right (am m c)) $$ Hm3r
  icases Hcut with ⟨Hm31, Hm32⟩
  iapply (send_step m K c _ (off 1 c) (dev16_eq c) 26 29 (by decide) (by decide) (dut_own 26 (by decide)) (dut_own 29 (by decide)) 15 rfl rfl rfl
      (src := mPs 3) (dst := mPs 0) rfl rfl (q := (shr 0)) (X := (fun j => am m c (Shape.reshapeEquiv squeezes_S1x8x128_S8x128.numel_eq j)))
      (Y := fun j => ydm0 (Shape.reshapeEquiv squeezes_S1x8x128_S8x128.numel_eq j))
      (land_sq c (mP 3) squeezes_S1x8x128_S8x128 (shr 0) (unsq_sq _ _)) (land_sq (off 1 c) (mP 0) squeezes_S1x8x128_S8x128 fullShare ((unsq_sq _ _).trans (VM0_at m c)))) $$ [HO HtS26 HtR29 Hm30 Hdm0]
  · isplitr; · iexact HR
    isplitl [HO]; · iexact HO
    isplitl [HtS26]; · iexact HtS26
    isplitl [HtR29]; · iexact HtR29
    isplitl [Hm30]; · rw [owns_squeeze, unsq_sq]; iexact Hm30
    rw [owns_squeeze, unsq_sq]; iexact Hdm0
  iintro ⟨Hc26, HO⟩
  iapply (ret_step c)
  iapply Hk
  isplitl [HO]; · iexact HO
  isplitl [Hout]; · iexact Hout
  isplitl [Hm31]; · iexact Hm31
  isplitl [Hm32]; · iexact Hm32
  iexact Hc26

end Cert.KernelIdeal.Ring

end
-- ==== Proof.IdealB4.lean ====
/-
# The body of the ring, part by part (the maxima and the end)

Each part of the kernel body is run from the pieces, positions, tokens and credits it uses to those it leaves, one
rule per effect in program order.
-/
module

public import proofs.«01_k».proof.Proof.IdealPays

@[expose] public section

set_option maxRecDepth 16384
set_option maxHeartbeats 1600000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 33 → ℕ) (c : Dev nD)

/-- The other two transfers of the own maximum, the first landing. -/
theorem part18 (w1 w2 : BitVec 32) (ydm1 : S1x8x128.Idx → Elt F .f32) (ydm2 : S1x8x128.Idx → Elt F .f32) (Q : _ → sProp 𝕄) :
    iprop(records m K
        ∗ levAts L lv
        ∗ owN c 16
        ∗ owns (c : Thread nD τ) (mP 3) (shr 1) (am m c)
        ∗ owns (c : Thread nD τ) (mP 3) (shr 2) (am m c)
        ∗ tok (c, 27) 0 0
        ∗ tok (off 2 c, 30) 0 0
        ∗ owns (off 2 c : Thread nD τ) (mP 1) fullShare ydm1
        ∗ tok (c, 28) 0 0
        ∗ tok (off 3 c, 31) 0 0
        ∗ owns (off 3 c : Thread nD τ) (mP 2) fullShare ydm2
        ∗ pos (c, 29) 0
        ∗ crd (c, 29))
      ⊢ iprop((∀ w481, (owN c 18
          ∗ crd (c, 27)
          ∗ crd (c, 28)
          ∗ semVal (kcell (c, 29)) 0
          ∗ owns (c : Thread nD τ) (mP 0) fullShare (VM m c 0)) -∗ Q w481)
        -∗ wpc c (k0_part18 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c w1 w2) Q) := by
  simp only [k0_part18_eq_skeleton]; unfold k0_part18_skel
  simp only [semSignalWord, semWaitWord, Prog.lift, Prog.bind_op, Prog.bind_ret, Prog.pure_eq_ret, wp_deviceId]
  iintro ⟨#HR, #HL, HO, Hm31, Hm32, HtS27, HtR30, Hdm1, HtS28, HtR31, Hdm2, Hp29, Hc29⟩ Hk
  iapply (send_step m K c _ (off 2 c) (dev17_eq c) 27 30 (by decide) (by decide) (dut_own 27 (by decide)) (dut_own 30 (by decide)) 16 rfl rfl rfl
      (src := mPs 3) (dst := mPs 1) rfl rfl (q := (shr 1)) (X := (fun j => am m c (Shape.reshapeEquiv squeezes_S1x8x128_S8x128.numel_eq j)))
      (Y := fun j => ydm1 (Shape.reshapeEquiv squeezes_S1x8x128_S8x128.numel_eq j))
      (land_sq c (mP 3) squeezes_S1x8x128_S8x128 (shr 1) (unsq_sq _ _)) (land_sq (off 2 c) (mP 1) squeezes_S1x8x128_S8x128 fullShare ((unsq_sq _ _).trans (VM1_at m c)))) $$ [HO HtS27 HtR30 Hm31 Hdm1]
  · isplitr; · iexact HR
    isplitl [HO]; · iexact HO
    isplitl [HtS27]; · iexact HtS27
    isplitl [HtR30]; · iexact HtR30
    isplitl [Hm31]; · rw [owns_squeeze, unsq_sq]; iexact Hm31
    rw [owns_squeeze, unsq_sq]; iexact Hdm1
  iintro ⟨Hc27, HO⟩
  iapply (send_step m K c _ (off 3 c) (dev18_eq c) 28 31 (by decide) (by decide) (dut_own 28 (by decide)) (dut_own 31 (by decide)) 17 rfl rfl rfl
      (src := mPs 3) (dst := mPs 2) rfl rfl (q := (shr 2)) (X := (fun j => am m c (Shape.reshapeEquiv squeezes_S1x8x128_S8x128.numel_eq j)))
      (Y := fun j => ydm2 (Shape.reshapeEquiv squeezes_S1x8x128_S8x128.numel_eq j))
      (land_sq c (mP 3) squeezes_S1x8x128_S8x128 (shr 2) (unsq_sq _ _)) (land_sq (off 3 c) (mP 2) squeezes_S1x8x128_S8x128 fullShare ((unsq_sq _ _).trans (VM2_at m c)))) $$ [HO HtS28 HtR31 Hm32 Hdm2]
  · isplitr; · iexact HR
    isplitl [HO]; · iexact HO
    isplitl [HtS28]; · iexact HtS28
    isplitl [HtR31]; · iexact HtR31
    isplitl [Hm32]; · rw [owns_squeeze, unsq_sq]; iexact Hm32
    rw [owns_squeeze, unsq_sq]; iexact Hdm2
  iintro ⟨Hc28, HO⟩
  iapply (wait_close m K c 29 (by decide) 0 (dut_own 29 (by decide)) (dut_once 29 (by decide)) 18 (by decide) rfl rfl
      (dst := mPs 0) (P := iprop(owns (c : Thread nD τ) (mP 0) fullShare (VM m c 0))) rfl) $$ [HO Hp29 Hc29]
  · isplitr; · iexact HR
    isplitr; · iexact HL
    isplitl [HO]; · iexact HO
    isplitl [Hp29] <;> iassumption
  iintro ⟨HO, Hz29, Hm0⟩
  iapply (ret_step c)
  iapply Hk
  isplitl [HO]; · iexact HO
  isplitl [Hc27]; · iexact Hc27
  isplitl [Hc28]; · iexact Hc28
  isplitl [Hz29]; · iexact Hz29
  iexact Hm0

/-- Three more waits of the exchange of maxima. -/
theorem part19 (w1 w2 : BitVec 32) (Q : _ → sProp 𝕄) :
    iprop(records m K
        ∗ levAts L lv
        ∗ owN c 18
        ∗ pos (c, 26) 0
        ∗ crd (c, 26)
        ∗ pos (c, 30) 0
        ∗ crd (c, 30)
        ∗ pos (c, 27) 0
        ∗ crd (c, 27))
      ⊢ iprop(((owN c 18
          ∗ semVal (kcell (c, 26)) 0
          ∗ owns (c : Thread nD τ) (mP 3) (shr 0) (am m c)
          ∗ semVal (kcell (c, 30)) 0
          ∗ owns (c : Thread nD τ) (mP 1) fullShare (VM m c 1)
          ∗ semVal (kcell (c, 27)) 0
          ∗ owns (c : Thread nD τ) (mP 3) (shr 1) (am m c)) -∗ Q ⟨⟩)
        -∗ wpc c (k0_part19 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 w1 w2) Q) := by
  simp only [k0_part19_eq_skeleton]; unfold k0_part19_skel
  simp only [semSignalWord, semWaitWord, Prog.lift, Prog.bind_op, Prog.bind_ret, Prog.pure_eq_ret, wp_deviceId]
  iintro ⟨#HR, #HL, HO, Hp26, Hc26, Hp30, Hc30, Hp27, Hc27⟩ Hk
  iapply (wait_close m K c 26 (by decide) 0 (dut_own 26 (by decide)) (dut_once 26 (by decide)) 18 (by decide) rfl rfl
      (dst := mPs 3) (P := iprop(owns (c : Thread nD τ) (mP 3) (shr 0) (am m c))) rfl) $$ [HO Hp26 Hc26]
  · isplitr; · iexact HR
    isplitr; · iexact HL
    isplitl [HO]; · iexact HO
    isplitl [Hp26] <;> iassumption
  iintro ⟨HO, Hz26, Hm30⟩
  iapply (wait_close m K c 30 (by decide) 0 (dut_own 30 (by decide)) (dut_once 30 (by decide)) 18 (by decide) rfl rfl
      (dst := mPs 1) (P := iprop(owns (c : Thread nD τ) (mP 1) fullShare (VM m c 1))) rfl) $$ [HO Hp30 Hc30]
  · isplitr; · iexact HR
    isplitr; · iexact HL
    isplitl [HO]; · iexact HO
    isplitl [Hp30] <;> iassumption
  iintro ⟨HO, Hz30, Hm1⟩
  iapply (wait_close m K c 27 (by decide) 0 (dut_own 27 (by decide)) (dut_once 27 (by decide)) 18 (by decide) rfl rfl
      (dst := mPs 3) (P := iprop(owns (c : Thread nD τ) (mP 3) (shr 1) (am m c))) rfl) $$ [HO Hp27 Hc27]
  · isplitr; · iexact HR
    isplitr; · iexact HL
    isplitl [HO]; · iexact HO
    isplitl [Hp27] <;> iassumption
  iintro ⟨HO, Hz27, Hm31⟩
  iapply (ret_step c)
  iapply Hk
  isplitl [HO]; · iexact HO
  isplitl [Hz26]; · iexact Hz26
  isplitl [Hm30]; · iexact Hm30
  isplitl [Hz30]; · iexact Hz30
  isplitl [Hm1]; · iexact Hm1
  isplitl [Hz27]; · iexact Hz27
  iexact Hm31

/-- The last waits of the exchange, the maxima together, the left half of the result rescaled. -/
theorem part20 (f : (cc0_stg1_0 : Ref sig .tc).ty.Contents (Elt F)) (Q : _ → sProp 𝕄) :
    iprop(records m K
        ∗ levAts L lv
        ∗ owN c 18
        ∗ pos (c, 31) 0
        ∗ crd (c, 31)
        ∗ pos (c, 28) 0
        ∗ crd (c, 28)
        ∗ owns (c : Thread nD τ) (mP 0) fullShare (VM m c 0)
        ∗ owns (c : Thread nD τ) (mP 3) (shr 0) (am m c)
        ∗ owns (c : Thread nD τ) (mP 1) fullShare (VM m c 1)
        ∗ owns (c : Thread nD τ) (mP 3) (shr 1) (am m c)
        ∗ ((c : Thread nD τ).loc cc0_stg1_0 ↦{fullShare} (o4 m c f)))
      ⊢ iprop(((owN c 18
          ∗ semVal (kcell (c, 31)) 0
          ∗ semVal (kcell (c, 28)) 0
          ∗ owns (c : Thread nD τ) mM fullShare (GM m c)
          ∗ ((c : Thread nD τ).loc cc0_stg1_0 ↦{fullShare} (o5 m c f))) -∗ Q ⟨k0_pay35 (GM m c), k0_pay36 (GM m c), k0_pay38 (oM.view.readAt (Elt F) wrectR.toLoadRect (o5 m c f))⟩)
        -∗ wpc c (k0_part20 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  simp only [k0_part20_eq_skeleton]; unfold k0_part20_skel
  simp only [semSignalWord, semWaitWord, Prog.lift, Prog.bind_op, Prog.bind_ret, Prog.pure_eq_ret, wp_deviceId]
  unfold o5
  iintro ⟨#HR, #HL, HO, Hp31, Hc31, Hp28, Hc28, Hm0, Hm30, Hm1, Hm31, Hout⟩ Hk
  iapply (wait_close m K c 31 (by decide) 0 (dut_own 31 (by decide)) (dut_once 31 (by decide)) 18 (by decide) rfl rfl
      (dst := mPs 2) (P := iprop(owns (c : Thread nD τ) (mP 2) fullShare (VM m c 2))) rfl) $$ [HO Hp31 Hc31]
  · isplitr; · iexact HR
    isplitr; · iexact HL
    isplitl [HO]; · iexact HO
    isplitl [Hp31] <;> iassumption
  iintro ⟨HO, Hz31, Hm2⟩
  iapply (wait_close m K c 28 (by decide) 0 (dut_own 28 (by decide)) (dut_once 28 (by decide)) 18 (by decide) rfl rfl
      (dst := mPs 3) (P := iprop(owns (c : Thread nD τ) (mP 3) (shr 2) (am m c))) rfl) $$ [HO Hp28 Hc28]
  · isplitr; · iexact HR
    isplitr; · iexact HL
    isplitl [HO]; · iexact HO
    isplitl [Hp28] <;> iassumption
  iintro ⟨HO, Hz28, Hm32⟩
  ihave Hm3 := (uncut3 m c) $$ [Hm30 Hm31 Hm32]
  · isplitl [Hm30]; · iexact Hm30
    isplitl [Hm31] <;> iassumption
  ihave HM := (gather m c) $$ [Hm0 Hm1 Hm2 Hm3]
  · isplitl [Hm0]; · iexact Hm0
    isplitl [Hm1]; · iexact Hm1
    isplitl [Hm2] <;> iassumption
  iapply (load_max m c) $$ HM; iintro HM
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := wrectL) (Mk := Finset.univ) (Finset.subset_univ _)) $$ Hout; iintro Hout
  iapply (wp_load 𝒱₀ (c : Thread nD τ) none Set.univ (m := oM) (Finset.subset_univ _)) $$ Hout; iintro Hout
  iapply (ret_step c)
  iapply Hk
  isplitl [HO]; · iexact HO
  isplitl [Hz31]; · iexact Hz31
  isplitl [Hz28]; · iexact Hz28
  isplitl [HM]; · iexact HM
  iexact Hout

/-- The right half rescaled; the first stages back. -/
theorem part21 (f : (cc0_stg1_0 : Ref sig .tc).ty.Contents (Elt F)) (Q : _ → sProp 𝕄) :
    iprop(records m K
        ∗ levAts L lv
        ∗ owN c 18
        ∗ ((c : Thread nD τ).loc cc0_stg1_0 ↦{fullShare} (o5 m c f))
        ∗ pos (c, 2) 0
        ∗ crd (c, 2)
        ∗ pos (c, 3) 0
        ∗ crd (c, 3)
        ∗ pos (c, 14) 0
        ∗ crd (c, 14))
      ⊢ iprop(((owN c 18
          ∗ ((c : Thread nD τ).loc cc0_stg1_0 ↦{fullShare} (o6 m c f))
          ∗ semVal (kcell (c, 2)) 0
          ∗ any c (sA 0)
          ∗ semVal (kcell (c, 3)) 0
          ∗ any c (sA 1)
          ∗ semVal (kcell (c, 14)) 0
          ∗ any c (sB 0)) -∗ Q ⟨⟩)
        -∗ wpc c (k0_part21 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 (k0_pay35 (GM m c)) (k0_pay36 (GM m c)) (k0_pay38 (oM.view.readAt (Elt F) wrectR.toLoadRect (o5 m c f)))) Q) := by
  simp only [k0_part21_eq_skeleton]; unfold k0_part21_skel
  simp only [semSignalWord, semWaitWord, Prog.lift, Prog.bind_op, Prog.bind_ret, Prog.pure_eq_ret, wp_deviceId]
  unfold o6
  iintro ⟨#HR, #HL, HO, Hout, Hp2, Hc2, Hp3, Hc3, Hp14, Hc14⟩ Hk
  iapply (wp_load 𝒱₀ (c : Thread nD τ) none Set.univ (m := oM) (Finset.subset_univ _)) $$ Hout; iintro Hout
  iapply (wp_store 𝒱₀ (c : Thread nD τ) none Set.univ (m := oM) (r := wrectR) (Mk := Finset.univ) (Finset.subset_univ _)) $$ Hout; iintro Hout
  iapply (wait_close m K c 2 (by decide) 0 (dut_own 2 (by decide)) (dut_once 2 (by decide)) 18 (by decide) rfl rfl
      (dst := sA 0) (P := iprop(any c (sA 0))) rfl) $$ [HO Hp2 Hc2]
  · isplitr; · iexact HR
    isplitr; · iexact HL
    isplitl [HO]; · iexact HO
    isplitl [Hp2] <;> iassumption
  iintro ⟨HO, Hz2, HbAs0⟩
  iapply (wait_close m K c 3 (by decide) 0 (dut_own 3 (by decide)) (dut_once 3 (by decide)) 18 (by decide) rfl rfl
      (dst := sA 1) (P := iprop(any c (sA 1))) rfl) $$ [HO Hp3 Hc3]
  · isplitr; · iexact HR
    isplitr; · iexact HL
    isplitl [HO]; · iexact HO
    isplitl [Hp3] <;> iassumption
  iintro ⟨HO, Hz3, HbAs1⟩
  iapply (wait_close m K c 14 (by decide) 0 (dut_own 14 (by decide)) (dut_once 14 (by decide)) 18 (by decide) rfl rfl
      (dst := sB 0) (P := iprop(any c (sB 0))) rfl) $$ [HO Hp14 Hc14]
  · isplitr; · iexact HR
    isplitr; · iexact HL
    isplitl [HO]; · iexact HO
    isplitl [Hp14] <;> iassumption
  iintro ⟨HO, Hz14, HbBs0⟩
  iapply (ret_step c)
  iapply Hk
  isplitl [HO]; · iexact HO
  isplitl [Hout]; · iexact Hout
  isplitl [Hz2]; · iexact Hz2
  isplitl [HbAs0]; · iexact HbAs0
  isplitl [Hz3]; · iexact Hz3
  isplitl [HbAs1]; · iexact HbAs1
  isplitl [Hz14]; · iexact Hz14
  iexact HbBs0

/-- More of the pieces sent come back. -/
theorem part22 (Q : _ → sProp 𝕄) :
    iprop(records m K
        ∗ levAts L lv
        ∗ owN c 18
        ∗ pos (c, 15) 0
        ∗ crd (c, 15)
        ∗ pos (c, 4) 0
        ∗ crd (c, 4)
        ∗ pos (c, 16) 0
        ∗ crd (c, 16))
      ⊢ iprop(((owN c 18
          ∗ semVal (kcell (c, 15)) 0
          ∗ any c (sB 1)
          ∗ semVal (kcell (c, 4)) 0
          ∗ any c (cA 0 0)
          ∗ semVal (kcell (c, 16)) 0
          ∗ any c (cB 0 0)) -∗ Q ⟨⟩)
        -∗ wpc c (k0_part22 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  simp only [k0_part22_eq_skeleton]; unfold k0_part22_skel
  simp only [semSignalWord, semWaitWord, Prog.lift, Prog.bind_op, Prog.bind_ret, Prog.pure_eq_ret, wp_deviceId]
  iintro ⟨#HR, #HL, HO, Hp15, Hc15, Hp4, Hc4, Hp16, Hc16⟩ Hk
  iapply (wait_close m K c 15 (by decide) 0 (dut_own 15 (by decide)) (dut_once 15 (by decide)) 18 (by decide) rfl rfl
      (dst := sB 1) (P := iprop(any c (sB 1))) rfl) $$ [HO Hp15 Hc15]
  · isplitr; · iexact HR
    isplitr; · iexact HL
    isplitl [HO]; · iexact HO
    isplitl [Hp15] <;> iassumption
  iintro ⟨HO, Hz15, HbBs1⟩
  iapply (wait_close m K c 4 (by decide) 0 (dut_own 4 (by decide)) (dut_once 4 (by decide)) 18 (by decide) rfl rfl
      (dst := cAs 0 0) (P := iprop(any c (cA 0 0))) rfl) $$ [HO Hp4 Hc4]
  · isplitr; · iexact HR
    isplitr; · iexact HL
    isplitl [HO]; · iexact HO
    isplitl [Hp4] <;> iassumption
  iintro ⟨HO, Hz4, HbA00⟩
  iapply (wait_close m K c 16 (by decide) 0 (dut_own 16 (by decide)) (dut_once 16 (by decide)) 18 (by decide) rfl rfl
      (dst := cBs 0 0) (P := iprop(any c (cB 0 0))) rfl) $$ [HO Hp16 Hc16]
  · isplitr; · iexact HR
    isplitr; · iexact HL
    isplitl [HO]; · iexact HO
    isplitl [Hp16] <;> iassumption
  iintro ⟨HO, Hz16, HbB00⟩
  iapply (ret_step c)
  iapply Hk
  isplitl [HO]; · iexact HO
  isplitl [Hz15]; · iexact Hz15
  isplitl [HbBs1]; · iexact HbBs1
  isplitl [Hz4]; · iexact Hz4
  isplitl [HbA00]; · iexact HbA00
  isplitl [Hz16]; · iexact Hz16
  iexact HbB00

/-- More of the pieces sent come back. -/
theorem part23 (Q : _ → sProp 𝕄) :
    iprop(records m K
        ∗ levAts L lv
        ∗ owN c 18
        ∗ pos (c, 5) 0
        ∗ crd (c, 5)
        ∗ pos (c, 17) 0
        ∗ crd (c, 17)
        ∗ pos (c, 6) 0
        ∗ crd (c, 6))
      ⊢ iprop(((owN c 18
          ∗ semVal (kcell (c, 5)) 0
          ∗ any c (cA 0 1)
          ∗ semVal (kcell (c, 17)) 0
          ∗ any c (cB 0 1)
          ∗ semVal (kcell (c, 6)) 0
          ∗ any c (cA 1 0)) -∗ Q ⟨⟩)
        -∗ wpc c (k0_part23 (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  simp only [k0_part23_eq_skeleton]; unfold k0_part23_skel
  simp only [semSignalWord, semWaitWord, Prog.lift, Prog.bind_op, Prog.bind_ret, Prog.pure_eq_ret, wp_deviceId]
  iintro ⟨#HR, #HL, HO, Hp5, Hc5, Hp17, Hc17, Hp6, Hc6⟩ Hk
  iapply (wait_close m K c 5 (by decide) 0 (dut_own 5 (by decide)) (dut_once 5 (by decide)) 18 (by decide) rfl rfl
      (dst := cAs 0 1) (P := iprop(any c (cA 0 1))) rfl) $$ [HO Hp5 Hc5]
  · isplitr; · iexact HR
    isplitr; · iexact HL
    isplitl [HO]; · iexact HO
    isplitl [Hp5] <;> iassumption
  iintro ⟨HO, Hz5, HbA01⟩
  iapply (wait_close m K c 17 (by decide) 0 (dut_own 17 (by decide)) (dut_once 17 (by decide)) 18 (by decide) rfl rfl
      (dst := cBs 0 1) (P := iprop(any c (cB 0 1))) rfl) $$ [HO Hp17 Hc17]
  · isplitr; · iexact HR
    isplitr; · iexact HL
    isplitl [HO]; · iexact HO
    isplitl [Hp17] <;> iassumption
  iintro ⟨HO, Hz17, HbB01⟩
  iapply (wait_close m K c 6 (by decide) 0 (dut_own 6 (by decide)) (dut_once 6 (by decide)) 18 (by decide) rfl rfl
      (dst := cAs 1 0) (P := iprop(any c (cA 1 0))) rfl) $$ [HO Hp6 Hc6]
  · isplitr; · iexact HR
    isplitr; · iexact HL
    isplitl [HO]; · iexact HO
    isplitl [Hp6] <;> iassumption
  iintro ⟨HO, Hz6, HbA10⟩
  iapply (ret_step c)
  iapply Hk
  isplitl [HO]; · iexact HO
  isplitl [Hz5]; · iexact Hz5
  isplitl [HbA01]; · iexact HbA01
  isplitl [Hz17]; · iexact Hz17
  isplitl [HbB01]; · iexact HbB01
  isplitl [Hz6]; · iexact Hz6
  iexact HbA10

end Cert.KernelIdeal.Ring

end
-- ==== Proof.IdealBody.lean ====
/-
# The body of the ring

The parts one after the other, from what a device holds when its body starts to what it holds at the end.
-/
module

public import proofs.«01_k».proof.Proof.IdealB1
public import proofs.«01_k».proof.Proof.IdealB2
public import proofs.«01_k».proof.Proof.IdealB3
public import proofs.«01_k».proof.Proof.IdealB4

@[expose] public section

set_option maxRecDepth 16384
set_option maxHeartbeats 8000000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 33 → ℕ) (c : Dev nD)

/-! ## What the body starts with -/

/-- Every cell of `c` at its first round. -/
def poss : sProp 𝕄 :=
  iprop(pos (c, 0) 0
    ∗ pos (c, 1) 0
    ∗ pos (c, 2) 0
    ∗ pos (c, 3) 0
    ∗ pos (c, 4) 0
    ∗ pos (c, 5) 0
    ∗ pos (c, 6) 0
    ∗ pos (c, 7) 0
    ∗ pos (c, 8) 0
    ∗ pos (c, 9) 0
    ∗ pos (c, 10) 0
    ∗ pos (c, 11) 0
    ∗ pos (c, 12) 0
    ∗ pos (c, 13) 0
    ∗ pos (c, 14) 0
    ∗ pos (c, 15) 0
    ∗ pos (c, 16) 0
    ∗ pos (c, 17) 0
    ∗ pos (c, 18) 0
    ∗ pos (c, 19) 0
    ∗ pos (c, 20) 0
    ∗ pos (c, 21) 0
    ∗ pos (c, 22) 0
    ∗ pos (c, 23) 0
    ∗ pos (c, 24) 0
    ∗ pos (c, 25) 0
    ∗ pos (c, 26) 0
    ∗ pos (c, 27) 0
    ∗ pos (c, 28) 0
    ∗ pos (c, 29) 0
    ∗ pos (c, 30) 0
    ∗ pos (c, 31) 0
    ∗ pos (c, 32) 0)
/-- The tokens of the duties `c` pays. -/
def toks : sProp 𝕄 :=
  iprop(tok (c, 0) 0 0
    ∗ tok (c, 1) 0 0
    ∗ tok (c, 0) 1 0
    ∗ tok (c, 1) 1 0
    ∗ tok (off 1 c, 32) 0 0
    ∗ tok (off 2 c, 32) 0 1
    ∗ tok (off 3 c, 32) 0 2
    ∗ tok (c, 2) 0 0
    ∗ tok (c, 3) 0 0
    ∗ tok (c, 4) 0 0
    ∗ tok (c, 5) 0 0
    ∗ tok (c, 6) 0 0
    ∗ tok (c, 7) 0 0
    ∗ tok (c, 14) 0 0
    ∗ tok (c, 15) 0 0
    ∗ tok (c, 16) 0 0
    ∗ tok (c, 17) 0 0
    ∗ tok (c, 18) 0 0
    ∗ tok (c, 19) 0 0
    ∗ tok (c, 26) 0 0
    ∗ tok (c, 27) 0 0
    ∗ tok (c, 28) 0 0
    ∗ tok (off 3 c, 8) 0 0
    ∗ tok (off 3 c, 9) 0 0
    ∗ tok (off 3 c, 10) 0 0
    ∗ tok (off 3 c, 11) 0 0
    ∗ tok (off 3 c, 12) 0 0
    ∗ tok (off 3 c, 13) 0 0
    ∗ tok (off 1 c, 20) 0 0
    ∗ tok (off 1 c, 21) 0 0
    ∗ tok (off 1 c, 22) 0 0
    ∗ tok (off 1 c, 23) 0 0
    ∗ tok (off 1 c, 24) 0 0
    ∗ tok (off 1 c, 25) 0 0
    ∗ tok (off 1 c, 29) 0 0
    ∗ tok (off 2 c, 30) 0 0
    ∗ tok (off 3 c, 31) 0 0)
/-- The units launched for `c`: of its landings and its barrier. -/
def crds : sProp 𝕄 :=
  iprop(crd (c, 8)
    ∗ crd (c, 9)
    ∗ crd (c, 10)
    ∗ crd (c, 11)
    ∗ crd (c, 12)
    ∗ crd (c, 13)
    ∗ crd (c, 20)
    ∗ crd (c, 21)
    ∗ crd (c, 22)
    ∗ crd (c, 23)
    ∗ crd (c, 24)
    ∗ crd (c, 25)
    ∗ crd (c, 29)
    ∗ crd (c, 30)
    ∗ crd (c, 31)
    ∗ crd (c, 32))
/-- The four row blocks of `x`. -/
def rows : sProp 𝕄 :=
  iprop(rowAt c (h0 c) ((h0 c).view.read (Elt F) (xv m c))
    ∗ rowAt c (h1 c) ((h1 c).view.read (Elt F) (xv m c))
    ∗ rowAt c (h2 c) ((h2 c).view.read (Elt F) (xv m c))
    ∗ rowAt c (h3 c) ((h3 c).view.read (Elt F) (xv m c)))
/-- The pieces of the scratch buffers, at some contents. -/
def pieces : sProp 𝕄 :=
  iprop(any (F := F) c (xP 0) ∗ any c (xP 1) ∗ any c (sA 0) ∗ any c (sA 1) ∗ any c (sB 0) ∗ any c (sB 1) ∗ piecesA c ∗ piecesB c
    ∗ any c (mP 0) ∗ any c (mP 1) ∗ any c (mP 2) ∗ any c (mP 3))
/-- The same at the end, the maxima in one. -/
def pieces' : sProp 𝕄 :=
  iprop(any (F := F) c (xP 0) ∗ any c (xP 1) ∗ any c (sA 0) ∗ any c (sA 1) ∗ any c (sB 0) ∗ any c (sB 1) ∗ piecesA c ∗ piecesB c ∗ any c mM)
/-- Every counter of `c` at zero. -/
def zeros : sProp 𝕄 :=
  iprop(semVal (kcell (c, 0)) 0
    ∗ semVal (kcell (c, 1)) 0
    ∗ semVal (kcell (c, 2)) 0
    ∗ semVal (kcell (c, 3)) 0
    ∗ semVal (kcell (c, 4)) 0
    ∗ semVal (kcell (c, 5)) 0
    ∗ semVal (kcell (c, 6)) 0
    ∗ semVal (kcell (c, 7)) 0
    ∗ semVal (kcell (c, 8)) 0
    ∗ semVal (kcell (c, 9)) 0
    ∗ semVal (kcell (c, 10)) 0
    ∗ semVal (kcell (c, 11)) 0
    ∗ semVal (kcell (c, 12)) 0
    ∗ semVal (kcell (c, 13)) 0
    ∗ semVal (kcell (c, 14)) 0
    ∗ semVal (kcell (c, 15)) 0
    ∗ semVal (kcell (c, 16)) 0
    ∗ semVal (kcell (c, 17)) 0
    ∗ semVal (kcell (c, 18)) 0
    ∗ semVal (kcell (c, 19)) 0
    ∗ semVal (kcell (c, 20)) 0
    ∗ semVal (kcell (c, 21)) 0
    ∗ semVal (kcell (c, 22)) 0
    ∗ semVal (kcell (c, 23)) 0
    ∗ semVal (kcell (c, 24)) 0
    ∗ semVal (kcell (c, 25)) 0
    ∗ semVal (kcell (c, 26)) 0
    ∗ semVal (kcell (c, 27)) 0
    ∗ semVal (kcell (c, 28)) 0
    ∗ semVal (kcell (c, 29)) 0
    ∗ semVal (kcell (c, 30)) 0
    ∗ semVal (kcell (c, 31)) 0
    ∗ semVal (kcell (c, 32)) 0)

/-- What the body starts from. -/
def bodyIn (fo : OutTy F) : sProp 𝕄 :=
  iprop(records m K ∗ levAts L lv ∗ owN c 0 ∗ poss (F := F) c ∗ toks (F := F) c ∗ crds (F := F) c ∗ rows m c ∗ pieces (F := F) c ∗ ((c : Thread nD τ).loc cc0_stg0_0 ↦{fullShare} wst m c) ∗ ((c : Thread nD τ).loc cc0_stg1_0 ↦{fullShare} fo))
/-- What the body ends with. -/
def bodyOut (fo : OutTy F) : sProp 𝕄 :=
  iprop(owN c 18 ∗ zeros (F := F) c ∗ rows m c ∗ pieces' (F := F) c ∗ ((c : Thread nD τ).loc cc0_stg0_0 ↦{fullShare} wst m c) ∗ ((c : Thread nD τ).loc cc0_stg1_0 ↦{fullShare} (o6 m c fo)))

/-! ## The barrier's payloads -/

/-- A device pays the next one with its A landing buffer and slot 2 of its maxima; -/
theorem give0 : iprop(piecesA c ∗ any c (mP 2)) ⊢ (barPay (F := F) (off 1 c) 0 : sProp 𝕄) := by
  show _ ⊢ iprop(piecesA (F := F) (off 3 (off 1 c)) ∗ any (off 3 (off 1 c)) (mP 2))
  rw [off_off 1 3 rfl]
/-- the one two places on with slot 1; -/
theorem give1 : any c (mP 1) ⊢ (barPay (F := F) (off 2 c) 1 : sProp 𝕄) := by
  show _ ⊢ any (F := F) (off 2 (off 2 c)) (mP 1)
  rw [off_off 2 2 rfl]
/-- the one three places on with its B landing buffer and slot 0. -/
theorem give2 : iprop(piecesB c ∗ any c (mP 0)) ⊢ (barPay (F := F) (off 3 c) 2 : sProp 𝕄) := by
  show _ ⊢ iprop(piecesB (F := F) (off 1 (off 3 c)) ∗ any (off 1 (off 3 c)) (mP 0))
  rw [off_off 3 1 rfl]
/-- From the barrier it takes the same pieces of the device three places on, -/
theorem take0 : barPay (F := F) c 0 ⊢ (iprop(piecesA (off 3 c) ∗ any (off 3 c) (mP 2)) : sProp 𝕄) := .rfl
/-- of the device two places on, -/
theorem take1 : barPay (F := F) c 1 ⊢ (any (off 2 c) (mP 1) : sProp 𝕄) := .rfl
/-- and of the next device. -/
theorem take2 : barPay (F := F) c 2 ⊢ (iprop(piecesB (off 1 c) ∗ any (off 1 c) (mP 0)) : sProp 𝕄) := .rfl

omit [FloatOps F] [Named F] in
/-- A piece held at some contents has contents. -/
theorem any_elim {s : Shape} {e : EltTy} (d : Dev nD) (M : Memref sig .tc .vmem s e) :
    (any (F := F) d M : sProp 𝕄) ⊢ iprop(∃ X : s.Idx → Elt F e, owns (d : Thread nD τ) M fullShare X) := .rfl

/-- Running one program and then another. -/
theorem bind_step {α β : Type} {Q : β → sProp 𝕄} {p : Prog (TpuEff nD τ sig (Elt F) Λ₀ .tc) α} {k : α → Prog (TpuEff nD τ sig (Elt F) Λ₀ .tc) β} :
    wpc c p (fun a => wpc c (k a) Q) ⊢ wpc c (p >>= k) Q := by
  unfold wpc; rw [wp_bind]

/-! ## The run -/

/-- The body, from its start to its end. -/
theorem sound_body (fo : OutTy F) (Kt : PUnit → sProp 𝕄) :
    bodyIn m K c fo ⊢ iprop((bodyOut m c fo -∗ Kt ⟨⟩) -∗ wpc c (cc0_body (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Kt) := by
  simp only [cc0_body_eq_skeleton]; unfold cc0_body_skel
  simp only [k0_part24_eq_skeleton]; unfold k0_part24_skel
  simp only [Prog.lift, Prog.bind_op, Prog.bind_ret, Prog.pure_eq_ret, bind_assoc]
  unfold bodyIn poss toks crds rows pieces
  iintro ⟨#HR, #HL, HO, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32⟩, ⟨Ht00, Ht10, Ht01, Ht11, Htb1, Htb2, Htb3, HtS2, HtS3, HtS4, HtS5, HtS6, HtS7, HtS14, HtS15, HtS16, HtS17, HtS18, HtS19, HtS26, HtS27, HtS28, HtR8, HtR9, HtR10, HtR11, HtR12, HtR13, HtR20, HtR21, HtR22, HtR23, HtR24, HtR25, HtR29, HtR30, HtR31⟩, ⟨Hc8, Hc9, Hc10, Hc11, Hc12, Hc13, Hc20, Hc21, Hc22, Hc23, Hc24, Hc25, Hc29, Hc30, Hc31, Hc32⟩, ⟨Hh0, Hh1, Hh2, Hh3⟩,
    ⟨Hx0, Hx1, HsA0, HsA1, HsB0, HsB1, HpA, HpB, Hm0, Hm1, Hm2, Hm3⟩, Hw, Hout⟩ Hk
  ihave Hx0 := (any_elim c (xP 0)) $$ Hx0
  icases Hx0 with ⟨%yx0, Hx0⟩
  ihave Hx1 := (any_elim c (xP 1)) $$ Hx1
  icases Hx1 with ⟨%yx1, Hx1⟩
  ihave HsA0 := (any_elim c (sA 0)) $$ HsA0
  icases HsA0 with ⟨%ysA0, HsA0⟩
  ihave HsA1 := (any_elim c (sA 1)) $$ HsA1
  icases HsA1 with ⟨%ysA1, HsA1⟩
  ihave HsB0 := (any_elim c (sB 0)) $$ HsB0
  icases HsB0 with ⟨%ysB0, HsB0⟩
  ihave HsB1 := (any_elim c (sB 1)) $$ HsB1
  icases HsB1 with ⟨%ysB1, HsB1⟩
  ihave Hm3 := (any_elim c (mP 3)) $$ Hm3
  icases Hm3 with ⟨%z3, Hm3⟩
  ihave Hpb1 := (give0 (F := F) c) $$ [HpA Hm2]
  · isplitl [HpA] <;> iassumption
  ihave Hpb2 := (give1 (F := F) c) $$ Hm1
  ihave Hpb3 := (give2 (F := F) c) $$ [HpB Hm0]
  · isplitl [HpB] <;> iassumption
  -- part 1
  iapply (bind_step c)
  iapply (part1 m K c yx0 yx1 _) $$ [HO Ht00 Hh1 Hx0 Ht10 Hh3 Hx1 Htb1 Hpb1]
  · isplitr; · iexact HR
    isplitl [HO]; · iexact HO
    isplitl [Ht00]; · iexact Ht00
    isplitl [Hh1]; · iexact Hh1
    isplitl [Hx0]; · iexact Hx0
    isplitl [Ht10]; · iexact Ht10
    isplitl [Hh3]; · iexact Hh3
    isplitl [Hx1]; · iexact Hx1
    isplitl [Htb1]; · iexact Htb1
    iexact Hpb1
  iintro %w1_0 %w1_1 %w1_2 %w1_3 ⟨HO, Hc0, Hc1⟩
  -- part 2
  iapply (bind_step c)
  iapply (part2 m K c _ _ _ _ _) $$ [HO Htb2 Hpb2 Htb3 Hpb3 Hp32 Hc32 Hw Hp0 Hc0]
  · isplitr; · iexact HR
    isplitr; · iexact HL
    isplitl [HO]; · iexact HO
    isplitl [Htb2]; · iexact Htb2
    isplitl [Hpb2]; · iexact Hpb2
    isplitl [Htb3]; · iexact Htb3
    isplitl [Hpb3]; · iexact Hpb3
    isplitl [Hp32]; · iexact Hp32
    isplitl [Hc32]; · iexact Hc32
    isplitl [Hw]; · iexact Hw
    isplitl [Hp0]; · iexact Hp0
    iexact Hc0
  iintro ⟨HO, Hz32, Hb0, Hb1, Hb2, Hw, Hp0, Hr0, Hx0, Hh1⟩
  ihave Hb0 := (take0 (F := F) c) $$ Hb0
  icases Hb0 with ⟨Hpc, Hdm2⟩
  unfold piecesA
  icases Hpc with ⟨HdA00, HdA01, HdA10, HdA11, HdA20, HdA21⟩
  ihave HdA00 := (any_elim (off 3 c) (cA 0 0)) $$ HdA00
  icases HdA00 with ⟨%ydA00, HdA00⟩
  ihave HdA01 := (any_elim (off 3 c) (cA 0 1)) $$ HdA01
  icases HdA01 with ⟨%ydA01, HdA01⟩
  ihave HdA10 := (any_elim (off 3 c) (cA 1 0)) $$ HdA10
  icases HdA10 with ⟨%ydA10, HdA10⟩
  ihave HdA11 := (any_elim (off 3 c) (cA 1 1)) $$ HdA11
  icases HdA11 with ⟨%ydA11, HdA11⟩
  ihave HdA20 := (any_elim (off 3 c) (cA 2 0)) $$ HdA20
  icases HdA20 with ⟨%ydA20, HdA20⟩
  ihave HdA21 := (any_elim (off 3 c) (cA 2 1)) $$ HdA21
  icases HdA21 with ⟨%ydA21, HdA21⟩
  ihave Hdm2 := (any_elim (off 3 c) (mP 2)) $$ Hdm2
  icases Hdm2 with ⟨%ydm2, Hdm2⟩
  ihave Hb2 := (take2 (F := F) c) $$ Hb2
  icases Hb2 with ⟨Hpc, Hdm0⟩
  unfold piecesB
  icases Hpc with ⟨HdB00, HdB01, HdB10, HdB11, HdB20, HdB21⟩
  ihave HdB00 := (any_elim (off 1 c) (cB 0 0)) $$ HdB00
  icases HdB00 with ⟨%ydB00, HdB00⟩
  ihave HdB01 := (any_elim (off 1 c) (cB 0 1)) $$ HdB01
  icases HdB01 with ⟨%ydB01, HdB01⟩
  ihave HdB10 := (any_elim (off 1 c) (cB 1 0)) $$ HdB10
  icases HdB10 with ⟨%ydB10, HdB10⟩
  ihave HdB11 := (any_elim (off 1 c) (cB 1 1)) $$ HdB11
  icases HdB11 with ⟨%ydB11, HdB11⟩
  ihave HdB20 := (any_elim (off 1 c) (cB 2 0)) $$ HdB20
  icases HdB20 with ⟨%ydB20, HdB20⟩
  ihave HdB21 := (any_elim (off 1 c) (cB 2 1)) $$ HdB21
  icases HdB21 with ⟨%ydB21, HdB21⟩
  ihave Hdm0 := (any_elim (off 1 c) (mP 0)) $$ Hdm0
  icases Hdm0 with ⟨%ydm0, Hdm0⟩
  ihave Hdm1 := (take1 (F := F) c) $$ Hb1
  ihave Hdm1 := (any_elim (off 2 c) (mP 1)) $$ Hdm1
  icases Hdm1 with ⟨%ydm1, Hdm1⟩
  -- part 3
  iapply (bind_step c)
  iapply (part3 m K c ysA0 ysA1 _ ydA00 _) $$ [HO Hx0 Ht01 Hh2 Hr0 HsA0 HsA1 HtS2 HtR8 HdA00]
  · isplitr; · iexact HR
    isplitl [HO]; · iexact HO
    isplitl [Hx0]; · iexact Hx0
    isplitl [Ht01]; · iexact Ht01
    isplitl [Hh2]; · iexact Hh2
    isplitl [Hr0]; · iexact Hr0
    isplitl [HsA0]; · iexact HsA0
    isplitl [HsA1]; · iexact HsA1
    isplitl [HtS2]; · iexact HtS2
    isplitl [HtR8]; · iexact HtR8
    iexact HdA00
  iintro ⟨HO, Hc0, Hc2, HsA1⟩
  -- part 4
  iapply (bind_step c)
  iapply (part4 m K c ysB0 _ ydA01 _) $$ [HO HsA1 HtS3 HtR9 HdA01 Hp1 Hc1 Ht11 Hh0 HsB0]
  · isplitr; · iexact HR
    isplitr; · iexact HL
    isplitl [HO]; · iexact HO
    isplitl [HsA1]; · iexact HsA1
    isplitl [HtS3]; · iexact HtS3
    isplitl [HtR9]; · iexact HtR9
    isplitl [HdA01]; · iexact HdA01
    isplitl [Hp1]; · iexact Hp1
    isplitl [Hc1]; · iexact Hc1
    isplitl [Ht11]; · iexact Ht11
    isplitl [Hh0]; · iexact Hh0
    iexact HsB0
  iintro ⟨HO, Hc3, Hp1, Hh3, Hc1, HsB0⟩
  -- part 5
  iapply (bind_step c)
  iapply (part5 m K c ysB1 _ _ _ ydB00 ydB01 _) $$ [HO HsB0 HtS14 HtR20 HdB00 HsB1 HtS15 HtR21 HdB01]
  · isplitr; · iexact HR
    isplitl [HO]; · iexact HO
    isplitl [HsB0]; · iexact HsB0
    isplitl [HtS14]; · iexact HtS14
    isplitl [HtR20]; · iexact HtR20
    isplitl [HdB00]; · iexact HdB00
    isplitl [HsB1]; · iexact HsB1
    isplitl [HtS15]; · iexact HtS15
    isplitl [HtR21]; · iexact HtR21
    iexact HdB01
  iintro ⟨HO, Hc14, Hc15⟩
  -- part 6
  iapply (bind_step c)
  iapply (part6 m K c _ _) $$ [HO Hp0 Hc0 Hp8 Hc8]
  · isplitr; · iexact HR
    isplitr; · iexact HL
    isplitl [HO]; · iexact HO
    isplitl [Hp0]; · iexact Hp0
    isplitl [Hc0]; · iexact Hc0
    isplitl [Hp8]; · iexact Hp8
    iexact Hc8
  iintro ⟨HO, Hz0, Hx0, Hh2, Hz8, HlA00⟩
  -- part 7
  iapply (bind_step c)
  iapply (part7 m K c _ ydA10 _) $$ [HO HlA00 HtS4 HtR10 HdA10 Hp20 Hc20]
  · isplitr; · iexact HR
    isplitr; · iexact HL
    isplitl [HO]; · iexact HO
    isplitl [HlA00]; · iexact HlA00
    isplitl [HtS4]; · iexact HtS4
    isplitl [HtR10]; · iexact HtR10
    isplitl [HdA10]; · iexact HdA10
    isplitl [Hp20]; · iexact Hp20
    iexact Hc20
  iintro ⟨HO, Hc4, Hz20, HlB00⟩
  -- part 8
  iapply (bind_step c)
  iapply (part8 m K c _ ydB10 _) $$ [HO HlB00 HtS16 HtR22 HdB10 Hp9 Hc9]
  · isplitr; · iexact HR
    isplitr; · iexact HL
    isplitl [HO]; · iexact HO
    isplitl [HlB00]; · iexact HlB00
    isplitl [HtS16]; · iexact HtS16
    isplitl [HtR22]; · iexact HtR22
    isplitl [HdB10]; · iexact HdB10
    isplitl [Hp9]; · iexact Hp9
    iexact Hc9
  iintro ⟨HO, Hc16, Hz9, HlA01⟩
  -- part 9
  iapply (bind_step c)
  iapply (part9 m K c _ ydA11 _) $$ [HO HlA01 HtS5 HtR11 HdA11 Hp21 Hc21]
  · isplitr; · iexact HR
    isplitr; · iexact HL
    isplitl [HO]; · iexact HO
    isplitl [HlA01]; · iexact HlA01
    isplitl [HtS5]; · iexact HtS5
    isplitl [HtR11]; · iexact HtR11
    isplitl [HdA11]; · iexact HdA11
    isplitl [Hp21]; · iexact Hp21
    iexact Hc21
  iintro ⟨HO, Hc5, Hz21, HlB01⟩
  -- part 10
  iapply (bind_step c)
  iapply (part10 m K c _ ydB11 _) $$ [HO HlB01 HtS17 HtR23 HdB11 Hp10 Hc10]
  · isplitr; · iexact HR
    isplitr; · iexact HL
    isplitl [HO]; · iexact HO
    isplitl [HlB01]; · iexact HlB01
    isplitl [HtS17]; · iexact HtS17
    isplitl [HtR23]; · iexact HtR23
    isplitl [HdB11]; · iexact HdB11
    isplitl [Hp10]; · iexact Hp10
    iexact Hc10
  iintro ⟨HO, Hc17, Hz10, HlA10⟩
  -- part 11
  iapply (bind_step c)
  iapply (part11 m K c _ ydA20 _) $$ [HO HlA10 HtS6 HtR12 HdA20 Hp22 Hc22]
  · isplitr; · iexact HR
    isplitr; · iexact HL
    isplitl [HO]; · iexact HO
    isplitl [HlA10]; · iexact HlA10
    isplitl [HtS6]; · iexact HtS6
    isplitl [HtR12]; · iexact HtR12
    isplitl [HdA20]; · iexact HdA20
    isplitl [Hp22]; · iexact Hp22
    iexact Hc22
  iintro ⟨HO, Hc6, Hz22, HlB10⟩
  -- part 12
  iapply (bind_step c)
  iapply (part12 m K c _ ydB20 _) $$ [HO HlB10 HtS18 HtR24 HdB20 Hp11 Hc11]
  · isplitr; · iexact HR
    isplitr; · iexact HL
    isplitl [HO]; · iexact HO
    isplitl [HlB10]; · iexact HlB10
    isplitl [HtS18]; · iexact HtS18
    isplitl [HtR24]; · iexact HtR24
    isplitl [HdB20]; · iexact HdB20
    isplitl [Hp11]; · iexact Hp11
    iexact Hc11
  iintro ⟨HO, Hc18, Hz11, HlA11⟩
  -- part 13
  iapply (bind_step c)
  iapply (part13 m K c _ ydA21 _) $$ [HO HlA11 HtS7 HtR13 HdA21 Hp23 Hc23]
  · isplitr; · iexact HR
    isplitr; · iexact HL
    isplitl [HO]; · iexact HO
    isplitl [HlA11]; · iexact HlA11
    isplitl [HtS7]; · iexact HtS7
    isplitl [HtR13]; · iexact HtR13
    isplitl [HdA21]; · iexact HdA21
    isplitl [Hp23]; · iexact Hp23
    iexact Hc23
  iintro ⟨HO, Hc7, Hz23, HlB11⟩
  -- part 14
  iapply (bind_step c)
  iapply (part14 m K c _ _ ydB21 _) $$ [HO HlB11 HtS19 HtR25 HdB21 Hp1 Hc1 Hp12 Hc12]
  · isplitr; · iexact HR
    isplitr; · iexact HL
    isplitl [HO]; · iexact HO
    isplitl [HlB11]; · iexact HlB11
    isplitl [HtS19]; · iexact HtS19
    isplitl [HtR25]; · iexact HtR25
    isplitl [HdB21]; · iexact HdB21
    isplitl [Hp1]; · iexact Hp1
    isplitl [Hc1]; · iexact Hc1
    isplitl [Hp12]; · iexact Hp12
    iexact Hc12
  iintro ⟨HO, Hc19, Hz1, Hx1, Hh0, Hz12, HlA20⟩
  -- part 15
  iapply (bind_step c)
  iapply (part15 m K c fo _ _ _) $$ [HO Hout Hp24 Hc24]
  · isplitr; · iexact HR
    isplitr; · iexact HL
    isplitl [HO]; · iexact HO
    isplitl [Hout]; · iexact Hout
    isplitl [Hp24]; · iexact Hp24
    iexact Hc24
  iintro %w15_0 ⟨HO, Hz24, HlB20, Hout⟩
  -- part 16
  iapply (bind_step c)
  iapply (part16 m K c fo _ _ _ _) $$ [HO Hp13 Hc13 Hout Hp25 Hc25]
  · isplitr; · iexact HR
    isplitr; · iexact HL
    isplitl [HO]; · iexact HO
    isplitl [Hp13]; · iexact Hp13
    isplitl [Hc13]; · iexact Hc13
    isplitl [Hout]; · iexact Hout
    isplitl [Hp25]; · iexact Hp25
    iexact Hc25
  iintro ⟨HO, Hz13, HlA21, Hout, Hz25, HlB21⟩
  -- part 17
  iapply (bind_step c)
  iapply (part17 m K c fo z3 _ ydm0 _) $$ [HO Hout Hm3 HtS26 HtR29 Hdm0]
  · isplitr; · iexact HR
    isplitl [HO]; · iexact HO
    isplitl [Hout]; · iexact Hout
    isplitl [Hm3]; · iexact Hm3
    isplitl [HtS26]; · iexact HtS26
    isplitl [HtR29]; · iexact HtR29
    iexact Hdm0
  iintro %w17_0 %w17_1 ⟨HO, Hout, Hm31, Hm32, Hc26⟩
  -- part 18
  iapply (bind_step c)
  iapply (part18 m K c _ _ ydm1 ydm2 _) $$ [HO Hm31 Hm32 HtS27 HtR30 Hdm1 HtS28 HtR31 Hdm2 Hp29 Hc29]
  · isplitr; · iexact HR
    isplitr; · iexact HL
    isplitl [HO]; · iexact HO
    isplitl [Hm31]; · iexact Hm31
    isplitl [Hm32]; · iexact Hm32
    isplitl [HtS27]; · iexact HtS27
    isplitl [HtR30]; · iexact HtR30
    isplitl [Hdm1]; · iexact Hdm1
    isplitl [HtS28]; · iexact HtS28
    isplitl [HtR31]; · iexact HtR31
    isplitl [Hdm2]; · iexact Hdm2
    isplitl [Hp29]; · iexact Hp29
    iexact Hc29
  iintro %w18_0 ⟨HO, Hc27, Hc28, Hz29, Hm0⟩
  -- part 19
  iapply (bind_step c)
  iapply (part19 m K c _ _ _) $$ [HO Hp26 Hc26 Hp30 Hc30 Hp27 Hc27]
  · isplitr; · iexact HR
    isplitr; · iexact HL
    isplitl [HO]; · iexact HO
    isplitl [Hp26]; · iexact Hp26
    isplitl [Hc26]; · iexact Hc26
    isplitl [Hp30]; · iexact Hp30
    isplitl [Hc30]; · iexact Hc30
    isplitl [Hp27]; · iexact Hp27
    iexact Hc27
  iintro ⟨HO, Hz26, Hm30, Hz30, Hm1, Hz27, Hm31⟩
  -- part 20
  iapply (bind_step c)
  iapply (part20 m K c fo _) $$ [HO Hp31 Hc31 Hp28 Hc28 Hm0 Hm30 Hm1 Hm31 Hout]
  · isplitr; · iexact HR
    isplitr; · iexact HL
    isplitl [HO]; · iexact HO
    isplitl [Hp31]; · iexact Hp31
    isplitl [Hc31]; · iexact Hc31
    isplitl [Hp28]; · iexact Hp28
    isplitl [Hc28]; · iexact Hc28
    isplitl [Hm0]; · iexact Hm0
    isplitl [Hm30]; · iexact Hm30
    isplitl [Hm1]; · iexact Hm1
    isplitl [Hm31]; · iexact Hm31
    iexact Hout
  iintro ⟨HO, Hz31, Hz28, HM, Hout⟩
  -- part 21
  iapply (bind_step c)
  iapply (part21 m K c fo _) $$ [HO Hout Hp2 Hc2 Hp3 Hc3 Hp14 Hc14]
  · isplitr; · iexact HR
    isplitr; · iexact HL
    isplitl [HO]; · iexact HO
    isplitl [Hout]; · iexact Hout
    isplitl [Hp2]; · iexact Hp2
    isplitl [Hc2]; · iexact Hc2
    isplitl [Hp3]; · iexact Hp3
    isplitl [Hc3]; · iexact Hc3
    isplitl [Hp14]; · iexact Hp14
    iexact Hc14
  iintro ⟨HO, Hout, Hz2, HbAs0, Hz3, HbAs1, Hz14, HbBs0⟩
  -- part 22
  iapply (bind_step c)
  iapply (part22 m K c  _) $$ [HO Hp15 Hc15 Hp4 Hc4 Hp16 Hc16]
  · isplitr; · iexact HR
    isplitr; · iexact HL
    isplitl [HO]; · iexact HO
    isplitl [Hp15]; · iexact Hp15
    isplitl [Hc15]; · iexact Hc15
    isplitl [Hp4]; · iexact Hp4
    isplitl [Hc4]; · iexact Hc4
    isplitl [Hp16]; · iexact Hp16
    iexact Hc16
  iintro ⟨HO, Hz15, HbBs1, Hz4, HbA00, Hz16, HbB00⟩
  -- part 23
  iapply (bind_step c)
  iapply (part23 m K c  _) $$ [HO Hp5 Hc5 Hp17 Hc17 Hp6 Hc6]
  · isplitr; · iexact HR
    isplitr; · iexact HL
    isplitl [HO]; · iexact HO
    isplitl [Hp5]; · iexact Hp5
    isplitl [Hc5]; · iexact Hc5
    isplitl [Hp17]; · iexact Hp17
    isplitl [Hc17]; · iexact Hc17
    isplitl [Hp6]; · iexact Hp6
    iexact Hc6
  iintro ⟨HO, Hz5, HbA01, Hz17, HbB01, Hz6, HbA10⟩
  -- the last three waits
  iapply (wait_close m K c 18 (by decide) 0 (dut_own 18 (by decide)) (dut_once 18 (by decide)) 18 (by decide) rfl rfl
      (dst := cBs 1 0) (P := iprop(any c (cB 1 0))) rfl) $$ [HO Hp18 Hc18]
  · isplitr; · iexact HR
    isplitr; · iexact HL
    isplitl [HO]; · iexact HO
    isplitl [Hp18] <;> iassumption
  iintro ⟨HO, Hz18, HbB10⟩
  iapply (wait_close m K c 7 (by decide) 0 (dut_own 7 (by decide)) (dut_once 7 (by decide)) 18 (by decide) rfl rfl
      (dst := cAs 1 1) (P := iprop(any c (cA 1 1))) rfl) $$ [HO Hp7 Hc7]
  · isplitr; · iexact HR
    isplitr; · iexact HL
    isplitl [HO]; · iexact HO
    isplitl [Hp7] <;> iassumption
  iintro ⟨HO, Hz7, HbA11⟩
  iapply (wait_close m K c 19 (by decide) 0 (dut_own 19 (by decide)) (dut_once 19 (by decide)) 18 (by decide) rfl rfl
      (dst := cBs 1 1) (P := iprop(any c (cB 1 1))) rfl) $$ [HO Hp19 Hc19]
  · isplitr; · iexact HR
    isplitr; · iexact HL
    isplitl [HO]; · iexact HO
    isplitl [Hp19] <;> iassumption
  iintro ⟨HO, Hz19, HbB11⟩
  iapply (ret_step c)
  iapply Hk
  unfold bodyOut zeros rows pieces' piecesA piecesB
  isplitl [HO]; · iexact HO
  isplitl [Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    isplitl [Hz24]; · iexact Hz24
    isplitl [Hz25]; · iexact Hz25
    isplitl [Hz26]; · iexact Hz26
    isplitl [Hz27]; · iexact Hz27
    isplitl [Hz28]; · iexact Hz28
    isplitl [Hz29]; · iexact Hz29
    isplitl [Hz30]; · iexact Hz30
    isplitl [Hz31]; · iexact Hz31
    iexact Hz32
  isplitl [Hh0 Hh1 Hh2 Hh3]
  · isplitl [Hh0]; · iexact Hh0
    isplitl [Hh1]; · iexact Hh1
    isplitl [Hh2]; · iexact Hh2
    iexact Hh3
  isplitl [Hx0 Hx1 HbAs0 HbAs1 HbBs0 HbBs1 HbA00 HbA01 HbA10 HbA11 HlA20 HlA21 HbB00 HbB01 HbB10 HbB11 HlB20 HlB21 HM]
  · isplitl [Hx0]; · iapply (any_intro c (xP 0) _); iexact Hx0
    isplitl [Hx1]; · iapply (any_intro c (xP 1) _); iexact Hx1
    isplitl [HbAs0]; · iexact HbAs0
    isplitl [HbAs1]; · iexact HbAs1
    isplitl [HbBs0]; · iexact HbBs0
    isplitl [HbBs1]; · iexact HbBs1
    isplitl [HbA00 HbA01 HbA10 HbA11 HlA20 HlA21]
    · isplitl [HbA00]; · iexact HbA00
      isplitl [HbA01]; · iexact HbA01
      isplitl [HbA10]; · iexact HbA10
      isplitl [HbA11]; · iexact HbA11
      isplitl [HlA20]; · iapply (any_intro c (cA 2 0) _); iexact HlA20
      iapply (any_intro c (cA 2 1) _); iexact HlA21
    isplitl [HbB00 HbB01 HbB10 HbB11 HlB20 HlB21]
    · isplitl [HbB00]; · iexact HbB00
      isplitl [HbB01]; · iexact HbB01
      isplitl [HbB10]; · iexact HbB10
      isplitl [HbB11]; · iexact HbB11
      isplitl [HlB20]; · iapply (any_intro c (cB 2 0) _); iexact HlB20
      iapply (any_intro c (cB 2 1) _); iexact HlB21
    iapply (any_intro c mM _); iexact HM
  isplitl [Hw]; · iexact Hw
  iexact Hout

end Cert.KernelIdeal.Ring

end
-- ==== Proof.IdealGeom.lean ====
/-
# Cutting the buffers

The scratch buffers are their pieces, `x` is its four row blocks, and what the output buffer holds in the end does not
depend on what it held before.
-/
module

public import proofs.«01_k».proof.Proof.IdealBody

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The pieces are disjoint and cover -/

/-- The slots of the x buffer do not overlap. -/
theorem xrect_disj (j j' : Fin 2) (h : j ≠ j') : Disjoint (xrect j).set (xrect j').set :=
  Rect.disjoint_of_axis _ _ 0 fun a ha b hb => by
    have ha : a < 1 := ha
    have hb : b < 1 := hb
    show j.val + 1 * a ≠ j'.val + 1 * b
    intro e
    exact h (Fin.ext (by omega))
/-- The slots of the x buffer cover it. -/
theorem xrect_cov : (Finset.univ : Finset (Fin 2)).biUnion (fun j => (xrect j).set) = Finset.univ :=
  Finset.eq_univ_of_forall fun i => Finset.mem_biUnion.mpr ⟨i 0, Finset.mem_univ _, Rect.mem_set_unit.mpr fun a => by
    fin_cases a
    · exact ⟨Nat.le_refl _, Nat.lt_succ_self _⟩
    · exact ⟨Nat.zero_le _, (Nat.zero_add _).symm ▸ (i 1).isLt⟩
    · exact ⟨Nat.zero_le _, (Nat.zero_add _).symm ▸ (i 2).isLt⟩⟩

/-- The halves of a stage do not overlap. -/
theorem srect_disj (j j' : Fin 2) (h : j ≠ j') : Disjoint (srect j).set (srect j').set :=
  Rect.disjoint_of_axis _ _ 0 fun a ha b hb => by
    have ha : a < 512 := ha
    have hb : b < 512 := hb
    show 512 * j.val + 1 * a ≠ 512 * j'.val + 1 * b
    intro e
    exact h (Fin.ext (by omega))
/-- The halves of a stage cover it. -/
theorem srect_cov : (Finset.univ : Finset (Fin 2)).biUnion (fun j => (srect j).set) = Finset.univ :=
  Finset.eq_univ_of_forall fun i => by
    have h0 : (i 0).val < 1024 := (i 0).isLt
    refine Finset.mem_biUnion.mpr ⟨⟨(i 0).val / 512, by omega⟩, Finset.mem_univ _, Rect.mem_set_unit.mpr fun a => ?_⟩
    fin_cases a
    · show 512 * ((i 0).val / 512) ≤ (i 0).val ∧ (i 0).val < 512 * ((i 0).val / 512) + 512
      omega
    · exact ⟨Nat.zero_le _, (Nat.zero_add _).symm ▸ (i 1).isLt⟩

/-- The six pieces of a landing buffer do not overlap. -/
theorem crect_disj (j j' : Fin 3 × Fin 2) (h : j ≠ j') : Disjoint (crect j.1 j.2).set (crect j'.1 j'.2).set := by
  by_cases h1 : j.1 = j'.1
  · have h2 : j.2 ≠ j'.2 := fun e => h (Prod.ext h1 e)
    exact Rect.disjoint_of_axis _ _ 1 fun a ha b hb => by
      have ha : a < 512 := ha
      have hb : b < 512 := hb
      show 512 * j.2.val + 1 * a ≠ 512 * j'.2.val + 1 * b
      intro e
      exact h2 (Fin.ext (by omega))
  · exact Rect.disjoint_of_axis _ _ 0 fun a ha b hb => by
      have ha : a < 1 := ha
      have hb : b < 1 := hb
      show j.1.val + 1 * a ≠ j'.1.val + 1 * b
      intro e
      exact h1 (Fin.ext (by omega))
/-- The six pieces of a landing buffer cover it. -/
theorem crect_cov : (Finset.univ : Finset (Fin 3 × Fin 2)).biUnion (fun j => (crect j.1 j.2).set) = Finset.univ :=
  Finset.eq_univ_of_forall fun i => by
    have h1 : (i 1).val < 1024 := (i 1).isLt
    refine Finset.mem_biUnion.mpr ⟨(i 0, ⟨(i 1).val / 512, by omega⟩), Finset.mem_univ _, Rect.mem_set_unit.mpr fun a => ?_⟩
    fin_cases a
    · exact ⟨Nat.le_refl _, Nat.lt_succ_self _⟩
    · show 512 * ((i 1).val / 512) ≤ (i 1).val ∧ (i 1).val < 512 * ((i 1).val / 512) + 512
      omega
    · exact ⟨Nat.zero_le _, (Nat.zero_add _).symm ▸ (i 2).isLt⟩

section Dev
variable (c : Dev nD)

/-- Row block `j`, counted from `c` round the ring, lies inside the rows of `x`. -/
theorem inb_h (j : Fin 4) : ∀ a, (![1024 * ((c.val + j.val) % 4), 0] : Fin 2 → ℕ) a + S1024x1024.size a ≤ S4096x1024.size a := by
  intro a
  fin_cases a
  · show 1024 * ((c.val + j.val) % 4) + 1024 ≤ 4096
    have := Nat.mod_lt (c.val + j.val) (show 0 < 4 by decide)
    omega
  · show 0 + 1024 ≤ 1024
    exact Nat.le_refl _
/-- The row blocks of `x` on `c`, by how many places after `c` they belong to. -/
abbrev hrect (j : Fin 4) : Rect S4096x1024 :=
  Rect.unit (s := S4096x1024) ![1024 * ((c.val + j.val) % 4), 0] S1024x1024.size (inb_h c j)

/-- The row blocks of `x` do not overlap. -/
theorem hrect_disj (j j' : Fin 4) (h : j ≠ j') : Disjoint (hrect c j).set (hrect c j').set :=
  Rect.disjoint_of_axis _ _ 0 fun a ha b hb => by
    have ha : a < 1024 := ha
    have hb : b < 1024 := hb
    show 1024 * ((c.val + j.val) % 4) + 1 * a ≠ 1024 * ((c.val + j'.val) % 4) + 1 * b
    intro e
    have hc : c.val < 4 := c.isLt
    have hj := j.isLt
    have hj' := j'.isLt
    exact h (Fin.ext (by omega))
/-- The row blocks of `x` cover it. -/
theorem hrect_cov : (Finset.univ : Finset (Fin 4)).biUnion (fun j => (hrect c j).set) = Finset.univ :=
  Finset.eq_univ_of_forall fun i => by
    have h0 : (i 0).val < 4096 := (i 0).isLt
    have hc : c.val < 4 := c.isLt
    refine Finset.mem_biUnion.mpr ⟨⟨((i 0).val / 1024 + 4 - c.val) % 4, Nat.mod_lt _ (by decide)⟩, Finset.mem_univ _, Rect.mem_set_unit.mpr fun a => ?_⟩
    fin_cases a
    · show 1024 * ((c.val + ((i 0).val / 1024 + 4 - c.val) % 4) % 4) ≤ (i 0).val
        ∧ (i 0).val < 1024 * ((c.val + ((i 0).val / 1024 + 4 - c.val) % 4) % 4) + 1024
      omega
    · exact ⟨Nat.zero_le _, (Nat.zero_add _).symm ▸ (i 1).isLt⟩

variable (m : (ℓ : Loc nD τ sig) → Buf (Elt F) ℓ)

/-- A block of `x` at its contents, by where it starts. -/
theorem row_congr {o o' : Fin 2 → ℕ} (h : o = o') (hi : ∀ a, o a + S1024x1024.size a ≤ S4096x1024.size a)
    (hi' : ∀ a, o' a + S1024x1024.size a ≤ S4096x1024.size a) :
    (rowAt c (hM.slice (Rect.unit (s := S4096x1024) o S1024x1024.size hi) (fun _ => rfl))
        ((hM.slice (Rect.unit (s := S4096x1024) o S1024x1024.size hi) (fun _ => rfl)).view.read (Elt F) (xv m c)) : sProp 𝕄)
      = rowAt c (hM.slice (Rect.unit (s := S4096x1024) o' S1024x1024.size hi') (fun _ => rfl))
        ((hM.slice (Rect.unit (s := S4096x1024) o' S1024x1024.size hi') (fun _ => rfl)).view.read (Elt F) (xv m c)) := by
  subst h; rfl

/-- Row block `j` as a piece of `x`. -/
abbrev hP (j : Fin 4) : Memref sig .tc .hbm S1024x1024 .f32 := hM.slice (hrect c j) (fun _ => rfl)
/-- Row block `j` held at its contents. -/
def rowJ (j : Fin 4) : sProp 𝕄 := rowAt c (hP c j) ((hP c j).view.read (Elt F) (xv m c))

/-- The row blocks as the transfers name them are the row blocks by number. -/
theorem rows_eq : rows m c = iprop(rowJ c m 0 ∗ rowJ c m 1 ∗ rowJ c m 2 ∗ rowJ c m 3) := by
  unfold rows
  have e0 : rowAt c (h0 c) ((h0 c).view.read (Elt F) (xv m c)) = rowJ c m 0 :=
    row_congr c m ((k0_off2_eq c).trans (by rw [show (c.val + (0 : Fin 4).val) % 4 = c.val from Nat.mod_eq_of_lt c.isLt])) _ _
  have e1 : rowAt c (h1 c) ((h1 c).view.read (Elt F) (xv m c)) = rowJ c m 1 := row_congr c m (k0_off1_eq c 0) _ _
  have e2 : rowAt c (h2 c) ((h2 c).view.read (Elt F) (xv m c)) = rowJ c m 2 := row_congr c m (k0_off1_eq c 1) _ _
  have e3 : rowAt c (h3 c) ((h3 c).view.read (Elt F) (xv m c)) = rowJ c m 3 := row_congr c m (k0_off1_eq c 2) _ _
  rw [e0, e1, e2, e3]

/-- A separating conjunction over four is four conjuncts; -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- `x` on `c` is its four row blocks. -/
theorem rows_intro : ((c : Thread nD τ).loc main_arg0 ↦{fullShare} xv m c : sProp 𝕄) ⊢ rows m c := by
  rw [rows_eq]; unfold rowJ rowAt
  refine BIBase.Entails.trans (BIBase.Entails.of_eq (owns_whole (c : Thread nD τ) main_arg0 fullShare (xv m c)).symm) ?_
  refine BIBase.Entails.trans (owns_rects (c : Thread nD τ) hM fullShare (hrect c) (fun _ _ => rfl) (hrect_disj c) (hrect_cov c) (xv m c)) ?_
  rw [bigSep_fin4]
  exact .rfl
/-- The four row blocks together are the whole of `x` again. -/
theorem rows_elim : rows m c ⊢ ((c : Thread nD τ).loc main_arg0 ↦{fullShare} xv m c : sProp 𝕄) := by
  rw [rows_eq]; unfold rowJ rowAt
  refine BIBase.Entails.trans ?_ (BIBase.Entails.of_eq (owns_whole (c : Thread nD τ) main_arg0 fullShare (xv m c)))
  refine BIBase.Entails.trans ?_ (owns_of_rects (c : Thread nD τ) hM fullShare (hrect c) (fun _ _ => rfl) (hrect_disj c) (hrect_cov c) (xv m c))
  rw [bigSep_fin4]
  exact .rfl

/-! ## The scratch buffers -/

/-- The six scratch buffers, each at some contents. -/
def scratch : sProp 𝕄 :=
  iprop(any (F := F) c xM ∗ any c sAM ∗ any c sBM ∗ any c cAM ∗ any c cBM ∗ any c mM)

/-- over three steps and two halves it is six conjuncts; -/
theorem bigSep_fin32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ
/-- over two it is two. -/
theorem bigSep_fin2 (Φ : Fin 2 → sProp 𝕄) : bigSep Finset.univ Φ = iprop(Φ 0 ∗ Φ 1) :=
  bigSep_univ_eq_bigSepL [0, 1] (by decide) (by decide) Φ

/-- The x buffer is given up for its pieces. -/
theorem cut_x : (any (F := F) c xM : sProp 𝕄) ⊢ iprop(any c (xP 0) ∗ any c (xP 1)) :=
  (rects_of_any (F := F) c xM xrect (fun _ _ => rfl) xrect_disj xrect_cov).trans (by rw [bigSep_fin2])
/-- The x buffer is had back from its pieces. -/
theorem join_x : iprop(any c (xP 0) ∗ any c (xP 1)) ⊢ (any (F := F) c xM : sProp 𝕄) :=
  BIBase.Entails.trans (by rw [bigSep_fin2]) (any_of_rects (F := F) c xM xrect (fun _ _ => rfl) xrect_disj xrect_cov)
/-- The A stage is given up for its pieces. -/
theorem cut_sA : (any (F := F) c sAM : sProp 𝕄) ⊢ iprop(any c (sA 0) ∗ any c (sA 1)) :=
  (rects_of_any (F := F) c sAM srect (fun _ _ => rfl) srect_disj srect_cov).trans (by rw [bigSep_fin2])
/-- The A stage is had back from its pieces. -/
theorem join_sA : iprop(any c (sA 0) ∗ any c (sA 1)) ⊢ (any (F := F) c sAM : sProp 𝕄) :=
  BIBase.Entails.trans (by rw [bigSep_fin2]) (any_of_rects (F := F) c sAM srect (fun _ _ => rfl) srect_disj srect_cov)
/-- The B stage is given up for its pieces. -/
theorem cut_sB : (any (F := F) c sBM : sProp 𝕄) ⊢ iprop(any c (sB 0) ∗ any c (sB 1)) :=
  (rects_of_any (F := F) c sBM srect (fun _ _ => rfl) srect_disj srect_cov).trans (by rw [bigSep_fin2])
/-- The B stage is had back from its pieces. -/
theorem join_sB : iprop(any c (sB 0) ∗ any c (sB 1)) ⊢ (any (F := F) c sBM : sProp 𝕄) :=
  BIBase.Entails.trans (by rw [bigSep_fin2]) (any_of_rects (F := F) c sBM srect (fun _ _ => rfl) srect_disj srect_cov)
/-- The A landing buffer is given up for its pieces. -/
theorem cut_A : (any (F := F) c cAM : sProp 𝕄) ⊢ piecesA c :=
  (rects_of_any (F := F) c cAM (fun j : Fin 3 × Fin 2 => crect j.1 j.2) (fun _ _ => rfl) crect_disj crect_cov).trans (by
    rw [bigSep_fin32]; unfold piecesA; exact .rfl)
/-- The A landing buffer is had back from its pieces. -/
theorem join_A : piecesA c ⊢ (any (F := F) c cAM : sProp 𝕄) :=
  BIBase.Entails.trans (by rw [bigSep_fin32]; unfold piecesA; exact .rfl)
    (any_of_rects (F := F) c cAM (fun j : Fin 3 × Fin 2 => crect j.1 j.2) (fun _ _ => rfl) crect_disj crect_cov)
/-- The B landing buffer is given up for its pieces. -/
theorem cut_B : (any (F := F) c cBM : sProp 𝕄) ⊢ piecesB c :=
  (rects_of_any (F := F) c cBM (fun j : Fin 3 × Fin 2 => crect j.1 j.2) (fun _ _ => rfl) crect_disj crect_cov).trans (by
    rw [bigSep_fin32]; unfold piecesB; exact .rfl)
/-- The B landing buffer is had back from its pieces. -/
theorem join_B : piecesB c ⊢ (any (F := F) c cBM : sProp 𝕄) :=
  BIBase.Entails.trans (by rw [bigSep_fin32]; unfold piecesB; exact .rfl)
    (any_of_rects (F := F) c cBM (fun j : Fin 3 × Fin 2 => crect j.1 j.2) (fun _ _ => rfl) crect_disj crect_cov)
/-- The buffer of the maxima is given up for its pieces. -/
theorem cut_m : (any (F := F) c mM : sProp 𝕄) ⊢ iprop(any c (mP 0) ∗ any c (mP 1) ∗ any c (mP 2) ∗ any c (mP 3)) :=
  (rects_of_any (F := F) c mM mrect (fun _ _ => rfl) mrect_disj mrect_cov).trans (by rw [bigSep_fin4])

/-- The scratch buffers are cut into the pieces, -/
theorem pieces_intro : scratch (F := F) c ⊢ pieces c := by
  unfold scratch pieces
  iintro ⟨Hx, HA, HB, HcA, HcB, Hm⟩
  ihave Hx := (cut_x (F := F) c) $$ Hx
  icases Hx with ⟨Hx0, Hx1⟩
  ihave HA := (cut_sA (F := F) c) $$ HA
  icases HA with ⟨HA0, HA1⟩
  ihave HB := (cut_sB (F := F) c) $$ HB
  icases HB with ⟨HB0, HB1⟩
  ihave HcA := (cut_A (F := F) c) $$ HcA
  ihave HcB := (cut_B (F := F) c) $$ HcB
  ihave Hm := (cut_m (F := F) c) $$ Hm
  isplitl [Hx0]; · iexact Hx0
  isplitl [Hx1]; · iexact Hx1
  isplitl [HA0]; · iexact HA0
  isplitl [HA1]; · iexact HA1
  isplitl [HB0]; · iexact HB0
  isplitl [HB1]; · iexact HB1
  isplitl [HcA]; · iexact HcA
  isplitl [HcB]; · iexact HcB
  iexact Hm
/-- and put together again. -/
theorem pieces_elim : pieces' (F := F) c ⊢ scratch c := by
  unfold scratch pieces'
  iintro ⟨Hx0, Hx1, HA0, HA1, HB0, HB1, HcA, HcB, Hm⟩
  isplitl [Hx0 Hx1]
  · iapply (join_x (F := F) c)
    isplitl [Hx0] <;> iassumption
  isplitl [HA0 HA1]
  · iapply (join_sA (F := F) c)
    isplitl [HA0] <;> iassumption
  isplitl [HB0 HB1]
  · iapply (join_sB (F := F) c)
    isplitl [HB0] <;> iassumption
  isplitl [HcA]
  · iapply (join_A (F := F) c); iexact HcA
  isplitl [HcB]
  · iapply (join_B (F := F) c); iexact HcB
  iexact Hm

/-! ## The output buffer -/

/-- After the four quadrants are stored, what was there before is gone. -/
theorem quad_cov (a b d x : S512x1024.Idx → Elt F .f32) : ∀ y : S1024x2048.Idx,
    ∃ p ∈ ([⟨orect11, a⟩, ⟨orect10, b⟩, ⟨orect01, d⟩, ⟨orect00, x⟩] : List (View.Piece (Elt F) S1024x2048 .f32)), y ∈ p.1.set :=
  View.cover_of_tiled _ ![512, 1024] (by rfl)
/-- The first four stores, as writes of the whole buffer. -/
theorem o4_writes (f : OutTy F) : o4 m c f = oM.view.writes (Elt F) f
      [⟨orect11, v442 m c⟩, ⟨orect10, k0_pay30 (v371 m c) (LA2 m c 1)⟩, ⟨orect01, k0_pay28 (v372 m c) (LB2 m c 0)⟩,
        ⟨orect00, k0_pay27 (v383 m c) (v384 m c)⟩] := by
  unfold o4 o3 o2 o1
  simp only [View.writes_cons, View.writes_nil]
/-- After four stores the buffer does not depend on what it held. -/
theorem o4_indep (f g : OutTy F) : o4 m c f = o4 m c g := by
  rw [o4_writes, o4_writes]
  have hr (h : OutTy F) : oM.view.read (Elt F) h = h := View.read_whole _ h
  have key := View.read_writes_of_cover (Val := Elt F) oM.view f oM.view g _
    (quad_cov (v442 m c) (k0_pay30 (v371 m c) (LA2 m c 1)) (k0_pay28 (v372 m c) (LB2 m c 0)) (k0_pay27 (v383 m c) (v384 m c)))
  rw [hr, hr] at key
  exact key
/-- Nor does it after all six. -/
theorem o6_indep (f g : OutTy F) : o6 m c f = o6 m c g := by
  have h5 : o5 m c f = o5 m c g := by unfold o5; rw [o4_indep c m f g]
  unfold o6; rw [h5]

/-- What device `c` leaves as its result. -/
def outAt : OutTy F := o6 m c (wst m c)
/-- So whatever the buffer held, the result is the one above. -/
theorem o6_eq (f : OutTy F) : o6 m c f = outAt c m := o6_indep c m f _

end Dev

end Cert.KernelIdeal.Ring

end
-- ==== Proof.IdealLaunch.lean ====
/-
# Launching the ring

From every device's counters at zero to the cells' invariants, every token at the device that pays with it, the units
of the landings; the pipeline's data; the body's obligation; the run of the whole program.
-/
module

public import proofs.«01_k».proof.Proof.IdealGeom
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from: the invariants and its positions and tokens under some names, the units of its
    landings, the levels, and `x`. -/
def start (c : Dev nD) : sProp 𝕄 :=
  iprop((∃ K, records m K ∗ poss (F := F) c ∗ toks (F := F) c) ∗ crds (F := F) c ∗ levAts L lv
    ∗ ((c : Thread nD τ).loc main_arg0 ↦{fullShare} xv m c))

/-- Before the body: what it starts from, and the scratch buffers. -/
def Φ₀ (c : Dev nD) : sProp 𝕄 := iprop(start m c ∗ scratch (F := F) c)
/-- After the body: every counter at zero and its cell closed, `x` as it was. -/
def Φ₁ (c : Dev nD) : sProp 𝕄 := iprop(scratch (F := F) c ∗ zeros (F := F) c ∗ ((c : Thread nD τ).loc main_arg0 ↦{fullShare} xv m c))

/-- The proof data of the one pipeline: what the windows hold, what is kept through the body and what is owed. -/
def dats (_ : Fin 1) (c : Dev nD) : Dat τ (Elt F) Unit ℕ UU ℕ cfg0 c where
  A w := m ((cfg0.win w).arr.view.loc (c : Thread nD τ))
  after w _ := match w with
    | ⟨0, _⟩ => wst m c
    | ⟨1, _⟩ => outAt c m
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole buffer held is its location at its contents. -/
theorem own_whole_eq (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

/-- What the body finds in the weights' staging buffer. -/
theorem before_w (c : Dev nD) (d) : (dats m 0 c).before (0 : Fin 2) t0_0 d = wst m c := by
  unfold Dat.before; rw [if_pos (fetch0_0 t0_0)]; rfl

/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc
      ∗ (∃ d, owns (c : Thread nD τ) (Memref.whole cc0_stg0_0) fullShare ((dats m 0 c).before (0 : Fin 2) t0_0 d))
      ∗ (∃ d, owns (c : Thread nD τ) (Memref.whole cc0_stg1_0) fullShare ((dats m 0 c).before (1 : Fin 2) t0_0 d)))
    ⊢ wpc c (cc0_body (F := F) (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12)
      (fun _ => iprop(Φ₁ m c ∗ (dats m 0 c).owesAt () t0_0.succ
        ∗ owns (c : Thread nD τ) (Memref.whole cc0_stg0_0) fullShare (wst m c)
        ∗ owns (c : Thread nD τ) (Memref.whole cc0_stg1_0) fullShare (outAt c m)))
  simp only [own_whole_eq, before_w]
  unfold Φ₀ start Dat.owesAt Pipeline.owesWithin
  rw [show (dats m 0 c).owed t0_0.castSucc = O₀ c from rfl, show (dats m 0 c).owed t0_0.succ = 0 from rfl]
  iintro ⟨⟨⟨⟨%K, #HR, Hp, Ht⟩, Hc, #HL, Hx⟩, Hscr⟩, ⟨%W, %hW, HO⟩, ⟨%d0, Hw⟩, ⟨%d1, Hout⟩⟩
  ihave Hrows := (rows_intro (F := F) c m) $$ Hx
  ihave Hpc := (pieces_intro (F := F) c) $$ Hscr
  iapply (sound_body m K c _ _) $$ [HO Hp Ht Hc Hrows Hpc Hw Hout]
  · unfold bodyIn
    isplitr; · iexact HR
    isplitr; · iexact HL
    isplitl [HO]
    · iapply (show owes (c : Thread nD τ) (O₀ c) W ⊢ (owN (F := F) c 0 : sProp 𝕄) from by
        unfold owN ow O₀
        iintro H
        iexists W; iexact H)
      iexact HO
    isplitl [Hp]; · iexact Hp
    isplitl [Ht]; · iexact Ht
    isplitl [Hc]; · iexact Hc
    isplitl [Hrows]; · iexact Hrows
    isplitl [Hpc]; · iexact Hpc
    isplitl [Hw]; · iexact Hw
    iexact Hout
  unfold bodyOut Φ₁
  rw [o6_eq]
  iintro ⟨HO, Hz, Hrows, Hpc, Hw, Hout⟩
  ihave Hx := (rows_elim (F := F) c m) $$ Hrows
  ihave Hscr := (pieces_elim (F := F) c) $$ Hpc
  ihave HO := (show owN (F := F) c 18 ⊢ (iprop(∃ W, owes (c : Thread nD τ) 0 W) : sProp 𝕄) from .rfl) $$ HO
  icases HO with ⟨%W', HO⟩
  isplitl [Hscr Hz Hx]
  · isplitl [Hscr]; · iexact Hscr
    isplitl [Hz]; · iexact Hz
    iexact Hx
  isplitl [HO]
  · iexists W'
    isplitr; · ipureintro; exact fun _ _ => Or.inl trivial
    iexact HO
  isplitl [Hw]; · iexact Hw
  iexact Hout

/-! ## The cells and the tokens as minted -/

/-- The own semaphores are the ones the launch lists. -/
theorem ownSemFacts : Pipeline.OwnSemFacts cfg0.spec osem := by decide

/-- Every window is held whole. -/
theorem share_eq (c : Dev nD) (w : Fin cfg0.W) : (dats m 0 c).share w = fullShare := by unfold Dat.share; split <;> rfl

/-- Different numbers are different semaphores, -/
theorem csem_injective : Function.Injective csem := by decide +kernel
/-- and different pairs are different cells. -/
theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- All the cells of the protocol. -/
def ringCells : Finset (GSem nD τ sig) := Finset.univ.map ⟨kcell, kcell_injective⟩

/-- The duties of a device's cells, one after the other: the cell's place, the round, the duty, and how many places after
    its payer the device is. -/
def tk : Fin 37 → Fin 33 := ![0, 1, 0, 1, 32, 32, 32, 2, 3, 4, 5, 6, 7, 14, 15, 16, 17, 18, 19, 26, 27, 28, 8, 9, 10, 11, 12, 13, 20, 21, 22, 23, 24, 25, 29, 30, 31]
/-- The round of each duty. -/
def tr : Fin 37 → ℕ := ![0, 0, 1, 1, 0, 0, 0, 0, 0, 0, 0, 0, 0, 0, 0, 0, 0, 0, 0, 0, 0, 0, 0, 0, 0, 0, 0, 0, 0, 0, 0, 0, 0, 0, 0, 0, 0]
/-- The duty within its round. -/
def td : Fin 37 → Fin 3 := ![0, 0, 0, 0, 0, 1, 2, 0, 0, 0, 0, 0, 0, 0, 0, 0, 0, 0, 0, 0, 0, 0, 0, 0, 0, 0, 0, 0, 0, 0, 0, 0, 0, 0, 0, 0, 0]
/-- How many places after its payer the device is. -/
def ts : Fin 37 → Fin 4 := ![0, 0, 0, 0, 1, 2, 3, 0, 0, 0, 0, 0, 0, 0, 0, 0, 0, 0, 0, 0, 0, 0, 3, 3, 3, 3, 3, 3, 1, 1, 1, 1, 1, 1, 1, 2, 3]

/-- The duties of a device are all different. -/
theorem t_injective : ∀ t t' : Fin 37, tk t = tk t' → tr t = tr t' → td t = td t' → t = t' := by decide +kernel

/-- A duty of a device: its cell, its round and its number. -/
abbrev tokOf (ct : Dev nD × Fin 37) : GSem nD τ sig × ℕ × Fin 3 := (kcell (ct.1, tk ct.2), tr ct.2, td ct.2)
/-- Different duties have different tokens. -/
theorem tokOf_injective : Function.Injective tokOf := by
  rintro ⟨c, j⟩ ⟨c', j'⟩ h
  have h1 := kcell_injective (congrArg Prod.fst h)
  have h2 : tr j = tr j' := congrArg (fun x : GSem nD τ sig × ℕ × Fin 3 => x.2.1) h
  have h3 : td j = td j' := congrArg (fun x : GSem nD τ sig × ℕ × Fin 3 => x.2.2) h
  have h4 : c = c' := congrArg Prod.fst h1
  rw [h4, t_injective j j' (congrArg Prod.snd h1) h2 h3]
/-- All the tokens of the protocol. -/
def ringToks : Finset (GSem nD τ sig × ℕ × Fin 3) := Finset.univ.map ⟨tokOf, tokOf_injective⟩

/-- The ghost state at launch: the pipeline's and the protocol's. -/
def u₀ : UU :=
  (initOf (Pipeline.cells cfgs cellOf_inj) (Pipeline.launchToks cfgs cellOf_inj), initOf ringCells ringToks)

/-- A duty's token at device `c`'s cell. -/
def tokAt (t : Fin 37) (c : Dev nD) : sProp 𝕄 := tok (F := F) (c, tk t) (tr t) (td t)

/-- What the launch deals device `c`, -/
def G (c : Dev nD) : sProp 𝕄 :=
  iprop((bigSep Finset.univ fun k : Fin 33 => roundState ER (ringRd m) (kcell (c, k)) 0)
    ∗ (bigSep Finset.univ fun k : Fin 33 => iprop(atPos ER (kcell (c, k)) 0 ∅ 0 ∗ reached ER (kcell (c, k)) 0))
    ∗ bigSep Finset.univ fun t : Fin 37 => tokAt (F := F) t c)
/-- and what the step over all devices makes of it. -/
def G' (c : Dev nD) : sProp 𝕄 := iprop(∃ K, records m K ∗ poss (F := F) c ∗ toks (F := F) c)

/-- The ghost state of the protocol gives every device its share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun t : Fin 37 => tokAt (F := F) t c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The semaphores outside the scope are the barrier alone. -/
theorem unscopedSems0_eq (c : Dev nD) : (unscopedSems0 c : sProp 𝕄) = semVal (kcell (c, 32)) 0 := by
  unfold unscopedSems0; rw [bigSep_eq_bigSepL_of_eq [SemLoc.reg barS] (by decide) (by decide)]; rfl
/-- A separating conjunction over the cells of a device is a list of conjuncts. -/
theorem bigSep_fin33 (Φ : Fin 33 → sProp 𝕄) : bigSep Finset.univ Φ = bigSepL [0, 1, 2, 3, 4, 5, 6, 7, 8, 9, 10, 11, 12, 13, 14, 15, 16, 17, 18, 19, 20, 21, 22, 23, 24, 25, 26, 27, 28, 29, 30, 31, 32] Φ :=
  bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ
/-- The counters at zero, as one conjunction over the cells; -/
theorem zeros_eq (c : Dev nD) : (zeros (F := F) c : sProp 𝕄) = bigSep Finset.univ fun k : Fin 33 => semVal (kcell (c, k)) 0 := by
  rw [bigSep_fin33]; rfl
/-- the positions at round 0 likewise. -/
theorem poss_eq (c : Dev nD) : (poss (F := F) c : sProp 𝕄) = bigSep Finset.univ fun k : Fin 33 => atPos ER (kcell (c, k)) 0 ∅ 0 := by
  rw [bigSep_fin33]; rfl
/-- The own counters, one by one. -/
theorem ownSems0_eq (c : Dev nD) : (Pipeline.ownSems0 (Ix := Unit) (Name := ℕ) (U := UU) (Lvl := ℕ) (Val := Elt F) (τ := τ) osem c : sProp 𝕄)
    = iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0 ∗ semVal (kcell (c, 17)) 0 ∗ semVal (kcell (c, 18)) 0 ∗ semVal (kcell (c, 19)) 0 ∗ semVal (kcell (c, 20)) 0 ∗ semVal (kcell (c, 21)) 0 ∗ semVal (kcell (c, 22)) 0 ∗ semVal (kcell (c, 23)) 0 ∗ semVal (kcell (c, 24)) 0 ∗ semVal (kcell (c, 25)) 0 ∗ semVal (kcell (c, 26)) 0 ∗ semVal (kcell (c, 27)) 0 ∗ semVal (kcell (c, 28)) 0 ∗ semVal (kcell (c, 29)) 0 ∗ semVal (kcell (c, 30)) 0 ∗ semVal (kcell (c, 31)) 0) :=
  (Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)).trans rfl

/-- The own counters and the barrier are the counters of the protocol, -/
theorem sems0_in (c : Dev nD) :
    iprop(Pipeline.ownSems0 (Ix := Unit) (Name := ℕ) (U := UU) (Lvl := ℕ) (Val := Elt F) (τ := τ) osem c ∗ unscopedSems0 c)
      ⊢ (zeros (F := F) c : sProp 𝕄) := by
  rw [ownSems0_eq, unscopedSems0_eq]
  unfold zeros
  iintro ⟨⟨H0, H1, H2, H3, H4, H5, H6, H7, H8, H9, H10, H11, H12, H13, H14, H15, H16, H17, H18, H19, H20, H21, H22, H23, H24, H25, H26, H27, H28, H29, H30, H31⟩, H32⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32
/-- and the other way round. -/
theorem sems0_out (c : Dev nD) :
    (zeros (F := F) c : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq]
  unfold zeros
  iintro ⟨H0, H1, H2, H3, H4, H5, H6, H7, H8, H9, H10, H11, H12, H13, H14, H15, H16, H17, H18, H19, H20, H21, H22, H23, H24, H25, H26, H27, H28, H29, H30, H31, H32⟩
  isplitr [H32]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iexact H32

/-! ## Every device's invariants, and the tokens moved to their payers -/

/-- A device's counters and round states are put into invariants; positions and tokens stay. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0))
          ∗ bigSep Finset.univ fun t : Fin 37 => tokAt (F := F) t c) := by
  unfold G
  iintro ⟨Hos, Hus, Hst, Hat, Htok⟩
  ihave Hv := (sems0_in (F := F) c) $$ [Hos Hus]
  · isplitl [Hos] <;> iassumption
  imod (show iprop(zeros (F := F) c ∗ bigSep Finset.univ fun k : Fin 33 => roundState ER (ringRd m) (kcell (c, k)) 0)
      ⊢ (|={Set.univ}=> bigSep Finset.univ fun k => iprop(∃ κ : ℕ, cellInv ER (ringRd m) κ (kcell (c, k))) : sProp 𝕄) from by
        rw [zeros_eq, ← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The device `k` places after `c`. -/
def mv : Fin 4 → Dev nD → Dev nD
  | 0 => fun c => c
  | 1 => off 1
  | 2 => off 2
  | 3 => off 3
/-- Moving round the ring loses no device. -/
theorem mv_bijective : ∀ k : Fin 4, Function.Bijective (mv k) := by decide +kernel
/-- Moving round the ring, as an equivalence. -/
def mvE (k : Fin 4) : Dev nD ≃ Dev nD := Equiv.ofBijective (mv k) (mv_bijective k)

/-- The tokens a device pays with, each at the cell it pays. -/
theorem toks_eq (c : Dev nD) : (toks (F := F) c : sProp 𝕄) = bigSep Finset.univ fun t : Fin 37 => tokAt (F := F) t (mv (ts t) c) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36] (by decide) (by decide)]; rfl

/-- Every token goes to the device that pays with it. -/
theorem toks_around : (bigSep Finset.univ fun c : Dev nD => bigSep Finset.univ fun t : Fin 37 => tokAt (F := F) t c)
    ⊢ (bigSep Finset.univ fun c : Dev nD => toks (F := F) c : sProp 𝕄) := by
  simp only [toks_eq]
  rw [bigSep_univ_comm (fun (c : Dev nD) (t : Fin 37) => tokAt (F := F) t c),
    bigSep_univ_comm (fun (c : Dev nD) (t : Fin 37) => tokAt (F := F) t (mv (ts t) c))]
  exact bigSep_mono fun t _ => Entails.of_eq (bigSep_univ_equiv (mvE (ts t)) (fun c : Dev nD => tokAt (F := F) t c))

/-- The records, the positions and the tokens are what the body needs of the ghost state. -/
theorem ghost_intro (K : Dev nD × Fin 33 → ℕ) (c : Dev nD) :
    iprop(records m K ∗ ((bigSep Finset.univ fun k : Fin 33 => atPos ER (kcell (c, k)) 0 ∅ 0) ∗ toks (F := F) c)) ⊢ G' m c := by
  unfold G'
  iintro ⟨#HR, Hp, Ht⟩
  iexists K
  isplitr; · iexact HR
  isplitl [Hp]; · rw [poss_eq]; iexact Hp
  iexact Ht

/-- A persistent fact is at hand for every conjunct. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices become records known to all, and the tokens go to their payers. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0))
          ∗ bigSep Finset.univ fun t : Fin 37 => tokAt (F := F) t c) : sProp 𝕄)
      ⊢ bigSep Finset.univ (G' m) := by
  rw [bigSep_sep', bigSep_sep', ← bigSep_univ_prod (fun ck : Dev nD × Fin 33 => iprop(∃ κ : ℕ, cellInv ER (ringRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (ringRd m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply (Entails.of_eq (bigSep_sep' Finset.univ (fun c : Dev nD => bigSep Finset.univ fun k : Fin 33 => (atPos ER (kcell (c, k)) 0 ∅ 0 : sProp 𝕄)) (fun c => toks (F := F) c)).symm)
    isplitl [Hat]; · iexact Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The units launched -/

/-- What a list of dues owes a cell: so many times its units. -/
theorem Ol_at (q : Dev nD × Fin 33) : ∀ l : List (Dev nD × Fin 33), Ol l (kcell q) () = l.count q * amt (csem q.2)
  | [] => by rw [List.count_nil, Nat.zero_mul]; rfl
  | p :: l => by
    have ih := Ol_at q l
    show (Ol l + ownTally p) (kcell q) () = _
    rw [Pi.add_apply, Finsupp.add_apply, ih]
    unfold ownTally
    rw [tallyAt_apply, List.count_cons]
    by_cases h : q = p
    · subst h
      rw [if_pos ⟨rfl, rfl⟩, if_pos (beq_self_eq_true q), Nat.add_mul, Nat.one_mul]
    · rw [if_neg (fun h' => h (kcell_injective h'.1)), if_neg (fun h' => h (beq_iff_eq.mp h').symm), Nat.add_zero]
      rfl

/-- Every landing cell is paid by exactly one device, -/
theorem count_landings : ∀ (c : Dev nD) (k : Fin 33), k ∈ ([8, 9, 10, 11, 12, 13, 20, 21, 22, 23, 24, 25, 29, 30, 31] : List (Fin 33)) → ∑ d : Dev nD, (dues d).count (c, k) = 1 := by decide +kernel
/-- and every barrier by three. -/
theorem count_barrier : ∀ c : Dev nD, ∑ d : Dev nD, (dues d).count (c, 32) = 3 := by decide +kernel

/-- The units launched at a cell, from the number of its payers. -/
theorem launch_at (c : Dev nD) (k : Fin 33) (n : ℕ) (h : (∑ d : Dev nD, (dues d).count (c, k)) * amt (csem k) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => Ol_at (c, k) (dues d)

/-- The cells that others pay are listed once each. -/
theorem cells_in : ([8, 9, 10, 11, 12, 13, 20, 21, 22, 23, 24, 25, 29, 30, 31, 32] : List (Fin 33)).Nodup := by decide

/-- The units of `c`'s landings and of its barrier. -/
theorem creds (c : Dev nD) : (Pipeline.launchCred O₀ c : sProp 𝕄) ⊢ crds (F := F) c := by
  unfold Pipeline.launchCred
  refine (bigSep_subset (Finset.subset_univ (([8, 9, 10, 11, 12, 13, 20, 21, 22, 23, 24, 25, 29, 30, 31, 32] : List (Fin 33)).toFinset.map ⟨csem, csem_injective⟩))).trans ?_
  rw [bigSep_map]
  have h : ∀ k ∈ ([8, 9, 10, 11, 12, 13, 20, 21, 22, 23, 24, 25, 29, 30, 31, 32] : List (Fin 33)).toFinset,
      (cred (tallyOn (kcell (c, k)) (launchCredit (Pipeline.owing O₀) 0 (kcell (c, k)))) : sProp 𝕄) ⊢ crd (c, k) := fun k hk => by
    unfold crd
    rw [launch_at c k (nk k) ?_]
    by_cases h32 : k = 32
    · subst h32; rw [count_barrier, amt_bar]; rfl
    · have hk' : k.val < 32 := by
        have := k.isLt
        have : k.val ≠ 32 := fun e => h32 (Fin.ext e)
        omega
      rw [count_landings c k (by
        have hk := List.mem_toFinset.mp hk
        revert hk h32; revert k; decide), Nat.one_mul, amt_own k hk']
  refine (bigSep_mono h).trans ?_
  rw [bigSep_eq_bigSepL_of_eq (S := ([8, 9, 10, 11, 12, 13, 20, 21, 22, 23, 24, 25, 29, 30, 31, 32] : List (Fin 33)).toFinset) [8, 9, 10, 11, 12, 13, 20, 21, 22, 23, 24, 25, 29, 30, 31, 32] rfl cells_in]
  exact BIBase.Entails.of_eq (show (bigSepL [8, 9, 10, 11, 12, 13, 20, 21, 22, 23, 24, 25, 29, 30, 31, 32] fun k : Fin 33 => (crd (c, k) : sProp 𝕄)) = crds (F := F) c from rfl)

/-! ## The side conditions of the launch theorem -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hx
  · iempintro

/-- The scratch buffers as the launch gives and takes them. -/
theorem scratch_eq (c : Dev nD) : (Pipeline.scopedRest cfg0.spec c : sProp 𝕄) = scratch (F := F) c := by
  rw [show (Pipeline.scopedRest cfg0.spec c : sProp 𝕄) = _ from scopedRest0_eq c]
  unfold scratch any
  simp only [own_whole_eq]
  rfl

/-- With the scratch buffers it is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

/-- What a device keeps to the end: its barrier counter at zero, and `x`. -/
def fin (c : Dev nD) : sProp 𝕄 := iprop(unscopedSems0 c ∗ ((c : Thread nD τ).loc main_arg0 ↦{fullShare} xv m c))

/-- The state after the body gives back the own counters and the scratch buffers. -/
theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scratch_eq]
  unfold Φ₁ fin
  iintro ⟨Hr, Hz, Hx⟩
  ihave Hz := (sems0_out (F := F) c) $$ Hz
  icases Hz with ⟨Ho, Hu⟩
  isplitl [Hu Hx]
  · isplitl [Hu] <;> iassumption
  isplitl [Ho]; · iexact Ho
  iexact Hr

/-- The pipeline's own waits are allowed: they are below everything owed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of (F := F) c _ 0 (by fin_cases w <;> fin_cases s <;> decide) (dues c)
        (by
          have := all_dues c 0 (fun k => decide (0 < lvK k)) (by decide)
          exact this)
    · exact mayWait_of (F := F) c _ 0 (by fin_cases w <;> fin_cases s <;> decide) [] rfl

/-! ## The run -/

/-- The final contents of a window. -/
def finalA (c : Dev nD) (w : Fin cfg0.W) : Buf (Elt F) ((cfg0.win w).arr.view.loc (c : Thread nD τ)) := (dats m 0 c).arrAt w cfg0.N

/-- What is known of the memory at the end: the windows at their final contents, `x` as it was. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg0) = m ((c : Thread nD τ).loc main_arg0)

set_option maxRecDepth 16384 in
/-- At the mesh of four devices, from any memory with every counter at zero: every weakly fair execution terminates, and
    every final state has each windowed array at the computed contents, `x` unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold fin
      iintro ⟨⟨Hu, Hx⟩, -, HSI⟩
      imod (Pipeline.unscopedSems0_read (X := unscopedSems0 c) (c := c) fupd_intro s') $$ [Hu HSI] with ⟨%h1, HSI⟩
      · isplitl [Hu] <;> iassumption
      ihave H := (pointsTo_read_all ({main_arg0} : Finset (Ref sig .tc)) (fun b => (c : Thread nD τ).loc b) (fun b => m ((c : Thread nD τ).loc b)) s') $$ [Hx HSI]
      · isplitl [Hx]
        · rw [bigSep_singleton]; iexact Hx
        iexact HSI
      icases H with ⟨%h2, HSI⟩
      imodintro
      isplitr
      · ipureintro; exact ⟨h1, h2 main_arg0 (Finset.mem_singleton_self _)⟩
      iexact HSI)
    (hQ := fun _ h hs => ⟨fun c => ⟨fun w => (h c).1 w, (h c).2.2.2⟩, sem_eq_zero hs fun c => (h c).2.2.1⟩)

/-- The weights after the run are what they were. -/
theorem finalA_w (c : Dev nD) : finalA m c (0 : Fin 2) = m ((c : Thread nD τ).loc main_arg1) :=
  (dats (F := F) m 0 c).arrAt_in (0 : Fin 2) rfl _

/-- The run with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).2, ((h.1 c).1 (0 : Fin 2)).trans (finalA_w m c)⟩, h.2⟩) (run_main m ρ)

end Cert.KernelIdeal.Ring

end
-- ==== Proof.IdealParts.lean ====
/-
# The sums of the ring

Every value of the ring at an index: the row blocks of `x` and the halves of the weights as parts of the arguments, the
payloads, and what lands at each step, up to the four quadrants, which hold the whole product's rows of their device.
-/
module

public import proofs.«01_k».proof.Proof.IdealLaunch
public import Idealize.ShloMosaic.Lib.Pointwise

@[expose] public section

set_option maxRecDepth 16384

noncomputable section

namespace Cert.KernelIdeal.Ring

open Cert.KernelIdeal Cert.KernelIdeal.Gen
open Idealize.ShloMosaic
open Idealize.ShloMosaic.TcCoe

/-! ## Places -/

/-- Row `r` of row half `q` of a block. -/
def half (q : Fin 2) (r : Fin 512) : Fin 1024 := ⟨512 * q.val + r.val, by have := q.isLt; have := r.isLt; omega⟩
/-- Column `n` of the left half. -/
def colL (n : Fin 1024) : Fin 2048 := ⟨n.val, by have := n.isLt; omega⟩
/-- Column `n` of the right half. -/
def colR (n : Fin 1024) : Fin 2048 := ⟨1024 + n.val, by have := n.isLt; omega⟩
/-- Row `r` of the block of device `c`. -/
def rowOf (c : Dev nD) (r : Fin 1024) : Fin 4096 := ⟨1024 * c.val + r.val, by have : c.val < 4 := c.isLt; have := r.isLt; omega⟩

/-- Steps round the ring add up. -/
theorem off_comp (k l j : ℕ) (h : (k + l) % 4 = j % 4) (c : Dev nD) : off k (off l c) = off j c := by
  apply Fin.ext
  show ((c.val + l) % 4 + k) % 4 = (c.val + j) % 4
  omega

/-- A value with its leading axis of size one put back, at an index. -/
theorem unsq_big {α : Type} (x : S1024x1024.Idx → α) (r k : Fin 1024) :
    unsq squeezes_S1x1024x1024_S1024x1024 x (ix3 0 r k) = x (ix2 r k) := by
  unfold unsq
  refine congrArg x ((Equiv.symm_apply_eq _).mpr ?_)
  pointwise
/-- A half block with a leading axis of size one, read at an index. -/
theorem unsq_half {α : Type} (x : S512x1024.Idx → α) (r : Fin 512) (k : Fin 1024) :
    unsq squeezes_S1x512x1024_S512x1024 x (ix3 0 r k) = x (ix2 r k) := by
  unfold unsq
  refine congrArg x ((Equiv.symm_apply_eq _).mpr ?_)
  pointwise

/-! ## The payloads at an index -/

/-- The top half of a product with the left weights, cast for sending. -/
theorem pay4_at (w v : FVec Ideal S1024x1024 .bf16) (r : Fin 512) (n : Fin 1024) :
    k0_pay4 w v (ix2 r n) = ∑ k : Fin 1024, v (ix2 (half 0 r) k) * w (ix2 k n) := by
  pointwise [k0_pay4, half]
/-- The bottom half of a product, cast for sending. -/
theorem pay5_at (w v : FVec Ideal S1024x1024 .bf16) (r : Fin 512) (n : Fin 1024) :
    k0_pay5 w v (ix2 r n) = ∑ k : Fin 1024, v (ix2 (half 1 r) k) * w (ix2 k n) := by
  pointwise [k0_pay5, half]
/-- The bottom half of a product with the right weights, cast for sending. -/
theorem pay8_at (w v : FVec Ideal S1024x1024 .bf16) (r : Fin 512) (n : Fin 1024) :
    k0_pay8 w v (ix2 r n) = ∑ k : Fin 1024, v (ix2 (half 1 r) k) * w (ix2 k n) := by
  pointwise [k0_pay8, half]
/-- The top half of a product straight from the loaded rows. -/
theorem pay7_at (w : FVec Ideal S1024x1024 .bf16) (v : Vec Ideal S1x1024x1024 .f32) (r : Fin 512) (n : Fin 1024) :
    k0_pay7 w v (ix2 r n) = ∑ k : Fin 1024, v (ix3 0 (half 0 r) k) * w (ix2 k n) := by
  pointwise [k0_pay7, k0_pay6, half]
/-- A loaded row block cast to bfloat16 has the entries of the block. -/
theorem pay3_at (v : Vec Ideal S1x1024x1024 .f32) (r k : Fin 1024) : k0_pay3 v (ix2 r k) = v (ix3 0 r k) := by
  pointwise [k0_pay3]
/-- A loaded row block cast to bfloat16 has the entries of the block. -/
theorem pay6_at (v : Vec Ideal S1x1024x1024 .f32) (r k : Fin 1024) : k0_pay6 v (ix2 r k) = v (ix3 0 r k) := by
  pointwise [k0_pay6]
/-- A product of the loaded rows with half of the weights, at an index. -/
theorem pay10_at (w : FVec Ideal S1024x1024 .bf16) (v : Vec Ideal S1x1024x1024 .f32) (r n : Fin 1024) :
    k0_pay10 w v (ix2 r n) = ∑ k : Fin 1024, v (ix3 0 r k) * w (ix2 k n) := by
  pointwise [k0_pay10, k0_pay9]
/-- A product of the loaded rows with half of the weights, at an index. -/
theorem pay11_at (w : FVec Ideal S1024x1024 .bf16) (v : Vec Ideal S1x1024x1024 .f32) (r n : Fin 1024) :
    k0_pay11 w v (ix2 r n) = ∑ k : Fin 1024, v (ix3 0 r k) * w (ix2 k n) := by
  pointwise [k0_pay11, k0_pay9]
/-- A product of the loaded rows with half of the weights, at an index. -/
theorem pay23_at (w : FVec Ideal S1024x1024 .bf16) (v : Vec Ideal S1x1024x1024 .f32) (r n : Fin 1024) :
    k0_pay23 w v (ix2 r n) = ∑ k : Fin 1024, v (ix3 0 r k) * w (ix2 k n) := by
  pointwise [k0_pay23, k0_pay22]
/-- A product of the loaded rows with half of the weights, at an index. -/
theorem pay24_at (w : FVec Ideal S1024x1024 .bf16) (v : Vec Ideal S1x1024x1024 .f32) (r n : Fin 1024) :
    k0_pay24 w v (ix2 r n) = ∑ k : Fin 1024, v (ix3 0 r k) * w (ix2 k n) := by
  pointwise [k0_pay24, k0_pay22]
/-- A product of the cast rows with half of the weights, at an index. -/
theorem pay16_at (w v : FVec Ideal S1024x1024 .bf16) (r n : Fin 1024) :
    k0_pay16 w v (ix2 r n) = ∑ k : Fin 1024, v (ix2 r k) * w (ix2 k n) := by
  pointwise [k0_pay16]
/-- A product of the cast rows with half of the weights, at an index. -/
theorem pay17_at (w v : FVec Ideal S1024x1024 .bf16) (r n : Fin 1024) :
    k0_pay17 w v (ix2 r n) = ∑ k : Fin 1024, v (ix2 r k) * w (ix2 k n) := by
  pointwise [k0_pay17]
/-- A top half landed, with the product of the loaded rows added. -/
theorem pay12_at (w : FVec Ideal S1024x1024 .bf16) (v : Vec Ideal S1x1024x1024 .f32) (l : Vec Ideal S1x512x1024 .bf16)
    (r : Fin 512) (n : Fin 1024) :
    k0_pay12 w v l (ix3 0 r n) = l (ix3 0 r n) + ∑ k : Fin 1024, v (ix3 0 (half 0 r) k) * w (ix2 k n) := by
  pointwise [k0_pay12, k0_pay10, k0_pay9, half]
/-- A top half landed, with the product of the cast rows added. -/
theorem pay18_at (w v : FVec Ideal S1024x1024 .bf16) (l : Vec Ideal S1x512x1024 .bf16) (r : Fin 512) (n : Fin 1024) :
    k0_pay18 w v l (ix3 0 r n) = l (ix3 0 r n) + ∑ k : Fin 1024, v (ix2 (half 0 r) k) * w (ix2 k n) := by
  pointwise [k0_pay18, k0_pay16, half]
/-- A top half landed, with the top half of a product added. -/
theorem pay13_at (p : FVec Ideal S1024x1024 .f32) (l : Vec Ideal S1x512x1024 .bf16) (r : Fin 512) (n : Fin 1024) :
    k0_pay13 p l (ix3 0 r n) = l (ix3 0 r n) + p (ix2 (half 0 r) n) := by
  pointwise [k0_pay13, half]
/-- A bottom half landed, with the bottom half of a product added. -/
theorem pay14_at (p : FVec Ideal S1024x1024 .f32) (l : Vec Ideal S1x512x1024 .bf16) (r : Fin 512) (n : Fin 1024) :
    k0_pay14 p l (ix3 0 r n) = l (ix3 0 r n) + p (ix2 (half 1 r) n) := by
  pointwise [k0_pay14, half]
/-- A bottom half landed, with the bottom half of a product added. -/
theorem pay15_at (p : FVec Ideal S1024x1024 .f32) (l : Vec Ideal S1x512x1024 .bf16) (r : Fin 512) (n : Fin 1024) :
    k0_pay15 p l (ix3 0 r n) = l (ix3 0 r n) + p (ix2 (half 1 r) n) := by
  pointwise [k0_pay15, half]
/-- A top half landed, with the top half of a product added. -/
theorem pay19_at (p : FVec Ideal S1024x1024 .f32) (l : Vec Ideal S1x512x1024 .bf16) (r : Fin 512) (n : Fin 1024) :
    k0_pay19 p l (ix3 0 r n) = l (ix3 0 r n) + p (ix2 (half 0 r) n) := by
  pointwise [k0_pay19, half]
/-- A bottom half landed, with the bottom half of a product added. -/
theorem pay20_at (p : FVec Ideal S1024x1024 .f32) (l : Vec Ideal S1x512x1024 .bf16) (r : Fin 512) (n : Fin 1024) :
    k0_pay20 p l (ix3 0 r n) = l (ix3 0 r n) + p (ix2 (half 1 r) n) := by
  pointwise [k0_pay20, half]
/-- A bottom half landed, with the bottom half of a product added. -/
theorem pay21_at (p : FVec Ideal S1024x1024 .f32) (l : Vec Ideal S1x512x1024 .bf16) (r : Fin 512) (n : Fin 1024) :
    k0_pay21 p l (ix3 0 r n) = l (ix3 0 r n) + p (ix2 (half 1 r) n) := by
  pointwise [k0_pay21, half]
/-- A top half landed, with the top half of a product added. -/
theorem pay28_at (p : FVec Ideal S1024x1024 .f32) (l : Vec Ideal S1x512x1024 .bf16) (r : Fin 512) (n : Fin 1024) :
    k0_pay28 p l (ix2 r n) = l (ix3 0 r n) + p (ix2 (half 0 r) n) := by
  pointwise [k0_pay28, half]
/-- A bottom half landed, with the bottom half of a product added. -/
theorem pay30_at (p : FVec Ideal S1024x1024 .f32) (l : Vec Ideal S1x512x1024 .bf16) (r : Fin 512) (n : Fin 1024) :
    k0_pay30 p l (ix2 r n) = l (ix3 0 r n) + p (ix2 (half 1 r) n) := by
  pointwise [k0_pay30, half]
/-- A bottom half landed, with the bottom half of a product added. -/
theorem pay32_at (p : FVec Ideal S1024x1024 .f32) (l : Vec Ideal S1x512x1024 .bf16) (r : Fin 512) (n : Fin 1024) :
    k0_pay32 p l (ix2 r n) = l (ix3 0 r n) + p (ix2 (half 1 r) n) := by
  pointwise [k0_pay32, half]
/-- A landed half, widened, has the entries that landed. -/
theorem pay25_at (l : Vec Ideal S1x512x1024 .bf16) (r : Fin 512) (n : Fin 1024) : k0_pay25 l (ix2 r n) = l (ix3 0 r n) := by
  pointwise [k0_pay25]
/-- The top half of a product of the loaded rows. -/
theorem pay26_at (w : FVec Ideal S1024x1024 .bf16) (v : Vec Ideal S1x1024x1024 .f32) (r : Fin 512) (n : Fin 1024) :
    k0_pay26 w v (ix2 r n) = ∑ k : Fin 1024, v (ix3 0 (half 0 r) k) * w (ix2 k n) := by
  pointwise [k0_pay26, k0_pay23, k0_pay22, half]
/-- A quadrant is the landed sum and the own part added. -/
theorem pay27_at (a b : FVec Ideal S512x1024 .f32) (r : Fin 512) (n : Fin 1024) :
    k0_pay27 a b (ix2 r n) = a (ix2 r n) + b (ix2 r n) := by
  pointwise [k0_pay27]

/-! ## The arguments -/

variable (m : (ℓ : Loc nD τ sig) → Buf (Elt Ideal) ℓ)

/-- Device `c`'s columns of `x`, its rows of the weights, and the part of the product it adds. -/
def xe (c : Dev nD) (r : Fin 4096) (k : Fin 1024) : EReal := xv m c (ix2 r k)
/-- The entries of the weights on device `c`. -/
def we (c : Dev nD) (k : Fin 1024) (n : Fin 2048) : EReal := m ((c : Thread nD τ).loc main_arg1) (ix2 k n)
/-- Device `c`'s part of an entry of the product: the sum over its own columns of `x`. -/
def part (c : Dev nD) (r : Fin 4096) (n : Fin 2048) : EReal := ∑ k : Fin 1024, xe m c r k * we m c k n

/-- The weights' block index at the one point is zero on every axis. -/
theorem w_idx : ∀ t : Fin cfg0.N, win0_0.index t (0 : Fin 2) = 0 ∧ win0_0.index t (1 : Fin 2) = 0 :=
  (by decide +kernel : ∀ t : Fin grid0.N, _)

/-- The staged block of the weights is the weights. -/
theorem wst_at (c : Dev nD) (k : Fin 1024) (n : Fin 2048) : wst m c (ix2 k n) = we m c k n := by
  obtain ⟨e0, e1⟩ := w_idx (0 : Fin 1)
  show m ((c : Thread nD τ).loc main_arg1) ((win0_0.blk (0 : Fin 1)).view.emb (ix2 k n)) = m ((c : Thread nD τ).loc main_arg1) (ix2 k n)
  refine congrArg _ (funext fun a => Fin.ext ?_)
  match a with
  | ⟨0, _⟩ => show win0_0.index (0 : Fin 1) (0 : Fin 2) * 1024 + 1 * k.val = k.val; omega
  | ⟨1, _⟩ => show win0_0.index (0 : Fin 1) (1 : Fin 2) * 2048 + 1 * n.val = n.val; omega

/-- The two column halves of the weights. -/
theorem wA_at (c : Dev nD) (k n : Fin 1024) : wA m c (ix2 k n) = we m c k (colL n) := by
  rw [← wst_at]
  pointwise [wA, k0_pay1]
  show wst m c (wrectL.emb (ix2 k n)) = _
  refine congrArg _ (funext fun a => Fin.ext ?_)
  match a with
  | ⟨0, _⟩ => show 0 + 1 * k.val = k.val; omega
  | ⟨1, _⟩ => show 0 + 1 * n.val = n.val; omega
/-- The right weights, at an index. -/
theorem wB_at (c : Dev nD) (k n : Fin 1024) : wB m c (ix2 k n) = we m c k (colR n) := by
  rw [← wst_at]
  pointwise [wB, k0_pay2]
  show wst m c (wrectR.emb (ix2 k n)) = _
  refine congrArg _ (funext fun a => Fin.ext ?_)
  match a with
  | ⟨0, _⟩ => show 0 + 1 * k.val = k.val; omega
  | ⟨1, _⟩ => show 1024 + 1 * n.val = 1024 + n.val; omega

/-- The row blocks of `x`. -/
theorem X0_at (c : Dev nD) (r k : Fin 1024) : X0 m c (ix3 0 r k) = xe m c (rowOf c r) k := by
  have e : k0_off2 c = ![1024 * c.val, 0] := k0_off2_eq c
  unfold X0
  rw [unsq_big]
  show xv m c ((hrect0 c).emb (ix2 r k)) = xv m c (ix2 (rowOf c r) k)
  refine congrArg _ (funext fun a => Fin.ext ?_)
  match a with
  | ⟨0, _⟩ =>
    show (k0_off2 c) 0 + 1 * r.val = 1024 * c.val + r.val
    rw [e]; show 1024 * c.val + 1 * r.val = _; omega
  | ⟨1, _⟩ =>
    show (k0_off2 c) 1 + 1 * k.val = k.val
    rw [e]; show 0 + 1 * k.val = _; omega
/-- The row block loaded for the next device. -/
theorem X1_at (c : Dev nD) (r k : Fin 1024) : X1 m c (ix3 0 r k) = xe m c (rowOf (off 1 c) r) k := by
  have e : k0_off1 c 1#32 = ![1024 * ((c.val + 1) % 4), 0] := k0_off1_eq c 0
  unfold X1
  rw [unsq_big]
  show xv m c ((hrect1 c).emb (ix2 r k)) = xv m c (ix2 (rowOf (off 1 c) r) k)
  refine congrArg _ (funext fun a => Fin.ext ?_)
  match a with
  | ⟨0, _⟩ =>
    show (k0_off1 c 1#32) 0 + 1 * r.val = 1024 * ((c.val + 1) % 4) + r.val
    rw [e]; show 1024 * ((c.val + 1) % 4) + 1 * r.val = _; omega
  | ⟨1, _⟩ =>
    show (k0_off1 c 1#32) 1 + 1 * k.val = k.val
    rw [e]; show 0 + 1 * k.val = _; omega
/-- The row block loaded for the device two places on. -/
theorem X2_at (c : Dev nD) (r k : Fin 1024) : X2 m c (ix3 0 r k) = xe m c (rowOf (off 2 c) r) k := by
  have e : k0_off1 c 2#32 = ![1024 * ((c.val + 2) % 4), 0] := k0_off1_eq c 1
  unfold X2
  rw [unsq_big]
  show xv m c ((hrect2 c).emb (ix2 r k)) = xv m c (ix2 (rowOf (off 2 c) r) k)
  refine congrArg _ (funext fun a => Fin.ext ?_)
  match a with
  | ⟨0, _⟩ =>
    show (k0_off1 c 2#32) 0 + 1 * r.val = 1024 * ((c.val + 2) % 4) + r.val
    rw [e]; show 1024 * ((c.val + 2) % 4) + 1 * r.val = _; omega
  | ⟨1, _⟩ =>
    show (k0_off1 c 2#32) 1 + 1 * k.val = k.val
    rw [e]; show 0 + 1 * k.val = _; omega
/-- The row block loaded for the device three places on. -/
theorem X3_at (c : Dev nD) (r k : Fin 1024) : X3 m c (ix3 0 r k) = xe m c (rowOf (off 3 c) r) k := by
  have e : k0_off1 c 3#32 = ![1024 * ((c.val + 3) % 4), 0] := k0_off1_eq c 2
  unfold X3
  rw [unsq_big]
  show xv m c ((hrect3 c).emb (ix2 r k)) = xv m c (ix2 (rowOf (off 3 c) r) k)
  refine congrArg _ (funext fun a => Fin.ext ?_)
  match a with
  | ⟨0, _⟩ =>
    show (k0_off1 c 3#32) 0 + 1 * r.val = 1024 * ((c.val + 3) % 4) + r.val
    rw [e]; show 1024 * ((c.val + 3) % 4) + 1 * r.val = _; omega
  | ⟨1, _⟩ =>
    show (k0_off1 c 3#32) 1 + 1 * k.val = k.val
    rw [e]; show 0 + 1 * k.val = _; omega

/-! ## What lands at each step -/

/-- The A stage holds the part for the next device, left columns. -/
theorem stA_at (c : Dev nD) (q : Fin 2) (r : Fin 512) (n : Fin 1024) :
    stA m c q (ix2 r n) = part m c (rowOf (off 1 c) (half q r)) (colL n) := by
  match q with
  | 0 =>
    show k0_pay4 (wA m c) (k0_pay3 (X1 m c)) (ix2 r n) = _
    simp only [pay4_at, pay3_at, X1_at, wA_at]
    rfl
  | 1 =>
    show k0_pay5 (wA m c) (k0_pay3 (X1 m c)) (ix2 r n) = _
    simp only [pay5_at, pay3_at, X1_at, wA_at]
    rfl
/-- The first A landing is one part, -/
theorem LA0_val (c : Dev nD) (q : Fin 2) (r : Fin 512) (n : Fin 1024) :
    LA0 m c q (ix3 0 r n) = part m (off 1 c) (rowOf (off 2 c) (half q r)) (colL n) := by
  unfold LA0
  rw [unsq_half, stA_at, off_comp 1 1 2 rfl]
/-- and with the device's own two. -/
theorem SA0_val (c : Dev nD) (q : Fin 2) (r : Fin 512) (n : Fin 1024) :
    SA0 m c q (ix3 0 r n) = part m (off 1 c) (rowOf (off 2 c) (half q r)) (colL n)
      + part m c (rowOf (off 2 c) (half q r)) (colL n) := by
  rw [← LA0_val]
  match q with
  | 0 =>
    show k0_pay12 (wA m c) (X2 m c) (LA0 m c 0) (ix3 0 r n) = _
    simp only [pay12_at, X2_at, wA_at]
    rfl
  | 1 =>
    show k0_pay14 (k0_pay10 (wA m c) (X2 m c)) (LA0 m c 1) (ix3 0 r n) = _
    simp only [pay14_at, pay10_at, X2_at, wA_at]
    rfl
/-- The second A landing is two parts, -/
theorem LA1_val (c : Dev nD) (q : Fin 2) (r : Fin 512) (n : Fin 1024) :
    LA1 m c q (ix3 0 r n) = part m (off 2 c) (rowOf (off 3 c) (half q r)) (colL n)
      + part m (off 1 c) (rowOf (off 3 c) (half q r)) (colL n) := by
  unfold LA1
  rw [SA0_val, off_comp 1 1 2 rfl, off_comp 2 1 3 rfl]
/-- and with the device's own three. -/
theorem SA1_val (c : Dev nD) (q : Fin 2) (r : Fin 512) (n : Fin 1024) :
    SA1 m c q (ix3 0 r n) = part m (off 2 c) (rowOf (off 3 c) (half q r)) (colL n)
      + part m (off 1 c) (rowOf (off 3 c) (half q r)) (colL n) + part m c (rowOf (off 3 c) (half q r)) (colL n) := by
  rw [← LA1_val]
  match q with
  | 0 =>
    show k0_pay18 (wA m c) (k0_pay6 (X3 m c)) (LA1 m c 0) (ix3 0 r n) = _
    simp only [pay18_at, pay6_at, X3_at, wA_at]
    rfl
  | 1 =>
    show k0_pay20 (k0_pay16 (wA m c) (k0_pay6 (X3 m c))) (LA1 m c 1) (ix3 0 r n) = _
    simp only [pay20_at, pay16_at, pay6_at, X3_at, wA_at]
    rfl
/-- The third A landing is the three other devices' parts of the device's own rows. -/
theorem LA2_val (c : Dev nD) (q : Fin 2) (r : Fin 512) (n : Fin 1024) :
    LA2 m c q (ix3 0 r n) = part m (off 3 c) (rowOf c (half q r)) (colL n)
      + part m (off 2 c) (rowOf c (half q r)) (colL n) + part m (off 1 c) (rowOf c (half q r)) (colL n) := by
  unfold LA2
  rw [SA1_val, off_comp 2 1 3 rfl, off_comp 1 1 2 rfl, off_off 1 3 rfl]

/-- The B stage holds the part for the device three places on, right columns. -/
theorem stB_at (c : Dev nD) (q : Fin 2) (r : Fin 512) (n : Fin 1024) :
    stB m c q (ix2 r n) = part m c (rowOf (off 3 c) (half q r)) (colR n) := by
  match q with
  | 0 =>
    show k0_pay7 (wB m c) (X3 m c) (ix2 r n) = _
    simp only [pay7_at, X3_at, wB_at]
    rfl
  | 1 =>
    show k0_pay8 (wB m c) (k0_pay6 (X3 m c)) (ix2 r n) = _
    simp only [pay8_at, pay6_at, X3_at, wB_at]
    rfl
/-- The first B landing is one part, -/
theorem LB0_val (c : Dev nD) (q : Fin 2) (r : Fin 512) (n : Fin 1024) :
    LB0 m c q (ix3 0 r n) = part m (off 3 c) (rowOf (off 2 c) (half q r)) (colR n) := by
  unfold LB0
  rw [unsq_half, stB_at, off_comp 3 3 2 rfl]
/-- and with the device's own two. -/
theorem SB0_val (c : Dev nD) (q : Fin 2) (r : Fin 512) (n : Fin 1024) :
    SB0 m c q (ix3 0 r n) = part m (off 3 c) (rowOf (off 2 c) (half q r)) (colR n)
      + part m c (rowOf (off 2 c) (half q r)) (colR n) := by
  rw [← LB0_val]
  match q with
  | 0 =>
    show k0_pay13 (k0_pay11 (wB m c) (X2 m c)) (LB0 m c 0) (ix3 0 r n) = _
    simp only [pay13_at, pay11_at, X2_at, wB_at]
    rfl
  | 1 =>
    show k0_pay15 (k0_pay11 (wB m c) (X2 m c)) (LB0 m c 1) (ix3 0 r n) = _
    simp only [pay15_at, pay11_at, X2_at, wB_at]
    rfl
/-- The second B landing is two parts, -/
theorem LB1_val (c : Dev nD) (q : Fin 2) (r : Fin 512) (n : Fin 1024) :
    LB1 m c q (ix3 0 r n) = part m (off 2 c) (rowOf (off 1 c) (half q r)) (colR n)
      + part m (off 3 c) (rowOf (off 1 c) (half q r)) (colR n) := by
  unfold LB1
  rw [SB0_val, off_comp 3 3 2 rfl, off_comp 2 3 1 rfl]
/-- and with the device's own three. -/
theorem SB1_val (c : Dev nD) (q : Fin 2) (r : Fin 512) (n : Fin 1024) :
    SB1 m c q (ix3 0 r n) = part m (off 2 c) (rowOf (off 1 c) (half q r)) (colR n)
      + part m (off 3 c) (rowOf (off 1 c) (half q r)) (colR n) + part m c (rowOf (off 1 c) (half q r)) (colR n) := by
  rw [← LB1_val]
  match q with
  | 0 =>
    show k0_pay19 (k0_pay17 (wB m c) (k0_pay3 (X1 m c))) (LB1 m c 0) (ix3 0 r n) = _
    simp only [pay19_at, pay17_at, pay3_at, X1_at, wB_at]
    rfl
  | 1 =>
    show k0_pay21 (k0_pay17 (wB m c) (k0_pay3 (X1 m c))) (LB1 m c 1) (ix3 0 r n) = _
    simp only [pay21_at, pay17_at, pay3_at, X1_at, wB_at]
    rfl
/-- The third B landing is the three other devices' parts of the device's own rows. -/
theorem LB2_val (c : Dev nD) (q : Fin 2) (r : Fin 512) (n : Fin 1024) :
    LB2 m c q (ix3 0 r n) = part m (off 1 c) (rowOf c (half q r)) (colR n)
      + part m (off 2 c) (rowOf c (half q r)) (colR n) + part m (off 3 c) (rowOf c (half q r)) (colR n) := by
  unfold LB2
  rw [SB1_val, off_comp 2 3 1 rfl, off_comp 3 3 2 rfl, off_off 3 1 rfl]

/-! ## The quadrants -/

/-- The whole product: the sum of the devices' parts. -/
def tot (R : Fin 4096) (N : Fin 2048) : EReal := ∑ d : Dev nD, part m d R N

/-- The parts in the order of either way round the ring. -/
theorem totL (c : Dev nD) (R : Fin 4096) (N : Fin 2048) :
    part m (off 3 c) R N + part m (off 2 c) R N + part m (off 1 c) R N + part m c R N = tot m R N := by
  have h : tot m R N = part m 0 R N + part m 1 R N + part m 2 R N + part m 3 R N := Fin.sum_univ_four _
  rw [h]
  have e : ∀ c : Dev nD, (c = 0 ∧ off 1 c = 1 ∧ off 2 c = 2 ∧ off 3 c = 3) ∨ (c = 1 ∧ off 1 c = 2 ∧ off 2 c = 3 ∧ off 3 c = 0)
      ∨ (c = 2 ∧ off 1 c = 3 ∧ off 2 c = 0 ∧ off 3 c = 1) ∨ (c = 3 ∧ off 1 c = 0 ∧ off 2 c = 1 ∧ off 3 c = 2) := by decide
  rcases e c with ⟨e0, e1, e2, e3⟩ | ⟨e0, e1, e2, e3⟩ | ⟨e0, e1, e2, e3⟩ | ⟨e0, e1, e2, e3⟩ <;> rw [e1, e2, e3, e0] <;> ac_rfl
/-- in the order of the B ring too. -/
theorem totR (c : Dev nD) (R : Fin 4096) (N : Fin 2048) :
    part m (off 1 c) R N + part m (off 2 c) R N + part m (off 3 c) R N + part m c R N = tot m R N := by
  rw [← totL m c]; ac_rfl

/-- The top left quadrant is the product there; -/
theorem q00_at (c : Dev nD) (r : Fin 512) (n : Fin 1024) :
    k0_pay27 (v383 m c) (v384 m c) (ix2 r n) = tot m (rowOf c (half 0 r)) (colL n) := by
  rw [← totL m c, ← LA2_val]
  unfold v383 v384
  simp only [pay27_at, pay25_at, pay26_at, X0_at, wA_at]
  rfl
/-- the top right too; -/
theorem q01_at (c : Dev nD) (r : Fin 512) (n : Fin 1024) :
    k0_pay28 (v372 m c) (LB2 m c 0) (ix2 r n) = tot m (rowOf c (half 0 r)) (colR n) := by
  rw [← totR m c, ← LB2_val]
  unfold v372
  simp only [pay28_at, pay24_at, X0_at, wB_at]
  rfl
/-- the bottom left too; -/
theorem q10_at (c : Dev nD) (r : Fin 512) (n : Fin 1024) :
    k0_pay30 (v371 m c) (LA2 m c 1) (ix2 r n) = tot m (rowOf c (half 1 r)) (colL n) := by
  rw [← totL m c, ← LA2_val]
  unfold v371
  simp only [pay30_at, pay23_at, X0_at, wA_at]
  rfl
/-- the bottom right too. -/
theorem q11_at (c : Dev nD) (r : Fin 512) (n : Fin 1024) :
    v442 m c (ix2 r n) = tot m (rowOf c (half 1 r)) (colR n) := by
  rw [← totR m c, ← LB2_val]
  unfold v442 v372
  simp only [pay32_at, pay24_at, X0_at, wB_at]
  rfl

end Cert.KernelIdeal.Ring

end
-- ==== Proof.IdealQuant.lean ====
/-
# The quantiser and the largest entry

The quantiser's two forms on the extended reals, and a maximum over a whole vector told by its upper bounds.
-/
module

public import Idealize.ShloMosaic.PureOps.Ideal.Laws
public import Idealize.ShloMosaic.PureOps.Reduce
public import Idealize.ShloMosaic.Lib.IdealHost

@[expose] public section

noncomputable section

namespace Cert.KernelIdeal.Ring

open Idealize.ShloMosaic

/-- The pattern of the largest fp8 value is the real 448. -/
theorem c448 : Ideal.ofBits .f32 0x43E00000#32 = ((448 : ℝ) : EReal) := by
  simp [Ideal.ofBits, Ideal.ieee, -EReal.coe_mul]; norm_num
/-- The accumulator of a maximum is the least extended real. -/
theorem cBot : Ideal.ofBits .f32 0xFF800000#32 = ⊥ := by simp [Ideal.ofBits, Ideal.ieee]

/-- Dividing by 448 is multiplying by its reciprocal. -/
theorem div448 (G : EReal) : Ideal.div G ((448 : ℝ) : EReal) = G * ((448⁻¹ : ℝ) : EReal) := by
  have h : ((448 : ℝ) : EReal) ≠ 0 := by
    intro e; have := EReal.coe_eq_zero.mp e; norm_num at this
  rw [Ideal.div, if_neg h, EReal.coe_inv]

/-- An entry scaled by `448 / G` and back by `G / 448` is the entry divided by the scale `G / 448`, clipped at 448 and
    multiplied by the scale, for every entry from 0 to `G`. Both are the entry at a positive finite `G`, and 0 at `G = 0` and at
    an infinite `G`. -/
theorem quant (r G : EReal) (h0 : 0 ≤ r) (h1 : r ≤ G) :
    r * Ideal.div ((448 : ℝ) : EReal) G * (G * ((448⁻¹ : ℝ) : EReal))
      = min (Ideal.div r (Ideal.div G ((448 : ℝ) : EReal))) ((448 : ℝ) : EReal) * Ideal.div G ((448 : ℝ) : EReal) := by
  rw [div448]
  induction G with
  | bot => exact absurd (h0.trans h1) (by simp)
  | top =>
    have ht : (⊤ : EReal) * ((448⁻¹ : ℝ) : EReal) = ⊤ := EReal.top_mul_coe_of_pos (by norm_num)
    have h4 : (0 : EReal) ≤ ((448 : ℝ) : EReal) := by exact_mod_cast (by norm_num : (0 : ℝ) ≤ 448)
    rw [ht]
    simp [Ideal.div, h4]
  | coe g =>
    induction r with
    | bot => exact absurd h0 (by simp)
    | top => exact absurd h1 (by simp)
    | coe x =>
      have hx : 0 ≤ x := by exact_mod_cast h0
      have hxg : x ≤ g := by exact_mod_cast h1
      rcases (hx.trans hxg).eq_or_lt with hg | hg
      · subst hg
        simp
      · have hg' : ((g : ℝ) : EReal) ≠ 0 := by exact_mod_cast hg.ne'
        have hs : ((g * 448⁻¹ : ℝ) : EReal) ≠ 0 := by
          have : g * 448⁻¹ ≠ 0 := by positivity
          exact_mod_cast this
        rw [← EReal.coe_mul]
        rw [Ideal.div, if_neg hg', Ideal.div, if_neg hs, ← EReal.coe_inv, ← EReal.coe_inv]
        have hm : x * (g * 448⁻¹)⁻¹ ≤ 448 := by
          rw [mul_inv, inv_inv, ← mul_assoc]
          have : x * g⁻¹ ≤ 1 := by rw [← div_eq_mul_inv]; exact (div_le_one hg).mpr hxg
          linarith
        rw [← EReal.coe_mul, ← EReal.coe_mul, ← EReal.coe_mul, ← EReal.coe_mul, min_eq_left (EReal.coe_le_coe_iff.mpr hm),
          ← EReal.coe_mul]
        refine congrArg _ ?_
        field_simp

/-- The maximum of a whole vector is below `b` exactly when every entry is. -/
theorem redMax_le {s t : Shape} {axes : List (Fin s.rank)} (src : FVec Ideal s .f32) (h : s.Reduces axes t) (hφ : FKind.Formats .f32)
    (hacc : 0xFF800000#32 = FKind.maximumf.neutral .f32 hφ) (ht : ∀ a b : t.Idx, a = b) (j : t.Idx) (b : EReal) :
    multiReduction .maximumf axes t src 0xFF800000#32 h hφ hacc j ≤ b ↔ ∀ i, src i ≤ b := by
  rw [multiReduction_maximumf_eq_fold]
  have e : (Finset.univ.filter fun i => h.drop i = j) = Finset.univ := Finset.filter_true_of_mem fun i _ => ht _ _
  rw [e]
  refine (Finset.fold_max_le (f := src) b).trans ?_
  show (Ideal.ofBits .f32 0xFF800000#32 ≤ b ∧ _) ↔ _
  rw [cBot]
  simp

/-- Recasting a vector's shape keeps its entries. -/
theorem cast_le {s t : Shape} (x : s.Idx → EReal) (h : s.ShapeCasts t) (b : EReal) :
    (∀ i, shapeCast t x h i ≤ b) ↔ ∀ i, x i ≤ b :=
  ⟨fun H i => by have := H ((Shape.reshapeEquiv h).symm i); unfold shapeCast at this; simpa using this, fun H i => H _⟩

end Cert.KernelIdeal.Ring

end
-- ==== Proof.IdealMax.lean ====
/-
# The largest entry

The maxima a device has in the end are below a bound exactly when the whole product is.
-/
module

public import proofs.«01_k».proof.Proof.IdealParts
public import proofs.«01_k».proof.Proof.IdealQuant

@[expose] public section

set_option maxRecDepth 16384

noncomputable section

namespace Cert.KernelIdeal.Ring

open Cert.KernelIdeal Cert.KernelIdeal.Gen
open Idealize.ShloMosaic
open Idealize.ShloMosaic.TcCoe

/-! ## Every place is in a half -/

/-- A row of a block is in the top half or in the bottom half. -/
theorem half_cases (r : Fin 1024) : (∃ s, r = half 0 s) ∨ ∃ s, r = half 1 s := by
  by_cases h : r.val < 512
  · exact .inl ⟨⟨r.val, h⟩, Fin.ext (show r.val = 512 * 0 + r.val by omega)⟩
  · exact .inr ⟨⟨r.val - 512, by have := r.isLt; omega⟩, Fin.ext (show r.val = 512 * 1 + (r.val - 512) by omega)⟩
/-- A column is on the left or on the right. -/
theorem col_cases (n : Fin 2048) : (∃ k, n = colL k) ∨ ∃ k, n = colR k := by
  by_cases h : n.val < 1024
  · exact .inl ⟨⟨n.val, h⟩, Fin.ext rfl⟩
  · exact .inr ⟨⟨n.val - 1024, by have := n.isLt; omega⟩, Fin.ext (show n.val = 1024 + (n.val - 1024) by omega)⟩
/-- A row of the whole array is a row of some device. -/
theorem row_cases (R : Fin 4096) : ∃ (c : Dev nD) (r : Fin 1024), R = rowOf c r := by
  have h := R.isLt
  refine ⟨⟨R.val / 1024, ?_⟩, ⟨R.val % 1024, Nat.mod_lt _ (by decide)⟩, Fin.ext ?_⟩
  · show R.val / 1024 < 4
    omega
  · show R.val = 1024 * (R.val / 1024) + R.val % 1024
    omega

/-! ## The maxima -/

/-- The shape of one entry has one index. -/
theorem one_idx (a b : S1.Idx) : a = b := by
  funext i
  match i with
  | ⟨0, _⟩ => exact Subsingleton.elim (α := Fin 1) _ _
/-- The one entry of a vector of one entry, recast and extracted. -/
theorem ext_cast {u : Shape} (x : S1.Idx → EReal) (h : S1.ShapeCasts u) (pos : Fin u.rank → ℕ) (hp : ∀ a, pos a < u.size a) (j : S1.Idx) :
    extractAt pos (shapeCast u x h) hp = x j := congrArg x (one_idx _ _)

/-- The largest entry of a quadrant, as the kernel takes it. -/
def red {F : FTy → Type} [FloatOps F] (q : FVec F S512x1024 .f32) : F .f32 :=
  extractAt ![0, 0, 0] (shapeCast S1x1x1 (multiReduction .maximumf [1, 2] S1 (shapeCast S1x512x1024 q shapeCasts_S512x1024_S1x512x1024)
    0xFF800000#32 reduces_S1x512x1024_S1 (.inl rfl) rfl) shapeCasts_S1_S1x1x1) inpos_S1x1x1_p0_0_0
/-- A number bounds the largest entry of a quadrant exactly when it bounds every entry. -/
theorem red_le (q : FVec Ideal S512x1024 .f32) (b : EReal) : (red q : EReal) ≤ b ↔ ∀ r n, q (ix2 r n) ≤ b := by
  unfold red
  rw [ext_cast _ _ _ _ (ix1 (0 : Fin 1))]
  refine (redMax_le (shapeCast S1x512x1024 q shapeCasts_S512x1024_S1x512x1024) reduces_S1x512x1024_S1 (.inl rfl) rfl one_idx
    (ix1 (0 : Fin 1)) b).trans ?_
  rw [cast_le]
  exact ⟨fun H r n => H _, fun H i => by rw [eq_ix2 i]; exact H _ _⟩

/-- The largest of the shared maxima, as the kernel takes it. -/
def redG {F : FTy → Type} [FloatOps F] (G : FVec F S4x8x128 .f32) : F .f32 :=
  extractAt ![0, 0, 0, 0] (shapeCast S1x1x1x1 (multiReduction .maximumf [1, 2, 3] S1 (shapeCast S1x4x8x128 G shapeCasts_S4x8x128_S1x4x8x128)
    0xFF800000#32 reduces_S1x4x8x128_S1 (.inl rfl) rfl) shapeCasts_S1_S1x1x1x1) inpos_S1x1x1x1_p0_0_0_0
/-- A number bounds the largest of the maxima exactly when it bounds each. -/
theorem redG_le (G : FVec Ideal S4x8x128 .f32) (b : EReal) : (redG G : EReal) ≤ b ↔ ∀ i, G i ≤ b := by
  unfold redG
  rw [ext_cast _ _ _ _ (ix1 (0 : Fin 1))]
  refine (redMax_le (shapeCast S1x4x8x128 G shapeCasts_S4x8x128_S1x4x8x128) reduces_S1x4x8x128_S1 (.inl rfl) rfl one_idx
    (ix1 (0 : Fin 1)) b).trans ?_
  rw [cast_le]

/-- The kernel's maximum of two numbers is the larger. -/
theorem smax_eq (a b : Ideal .f32) : Scalar.maximumf a b = (max a b : EReal) := rfl

section
variable {F : FTy → Type} [FloatOps F] [Named F]
/-- The first running maximum: zero and the two top quadrants. -/
theorem pay29_eq (a : FVec F S1024x1024 .f32) (b d : FVec F S512x1024 .f32) (l : Vec F S1x512x1024 .bf16) :
    k0_pay29 a b d l
      = Scalar.maximumf (Scalar.maximumf (Scalar.ofBits .f32 0x00000000#32) (red (k0_pay27 b d))) (red (k0_pay28 a l)) := rfl
/-- The running maximum with the bottom left quadrant. -/
theorem pay31_eq (a : FVec F S1024x1024 .f32) (b : F .f32) (l : Vec F S1x512x1024 .bf16) :
    k0_pay31 a b l = Scalar.maximumf b (red (k0_pay30 a l)) := rfl
/-- The vector a device sends holds its largest entry everywhere. -/
theorem pay33_eq (b : F .f32) (q : FVec F S512x1024 .f32) (i : S1x8x128.Idx) :
    k0_pay33 b q i = Scalar.maximumf b (red q) := rfl
/-- The last maximum is taken of the four slots. -/
theorem pay34_eq (G : Vec F S4x8x128 .f32) : k0_pay34 G = redG G := rfl
end

variable (m : (ℓ : Loc nD τ sig) → Buf (Elt Ideal) ℓ)

/-- A device's largest entry, from zero. -/
def vmax (c : Dev nD) : EReal :=
  max (max (max (max (Ideal.ofBits .f32 0x00000000#32 : EReal) (red (k0_pay27 (v383 m c) (v384 m c)) : EReal))
    (red (k0_pay28 (v372 m c) (LB2 m c 0)) : EReal)) (red (k0_pay30 (v371 m c) (LA2 m c 1)) : EReal)) (red (v442 m c) : EReal)
/-- The vector a device sends is its largest entry. -/
theorem am_at (c : Dev nD) (i : S1x8x128.Idx) : am m c i = vmax m c := by
  unfold am v429 v410 vmax
  rw [pay33_eq, pay31_eq, pay29_eq, smax_eq, smax_eq, smax_eq, smax_eq]
  rfl
/-- A number bounds a device's largest entry exactly when it is not negative and bounds every entry of the device's
    rows. -/
theorem vmax_le (c : Dev nD) (b : EReal) : vmax m c ≤ b ↔ 0 ≤ b ∧ ∀ r N, tot m (rowOf c r) N ≤ b := by
  unfold vmax
  rw [max_le_iff, max_le_iff, max_le_iff, max_le_iff, red_le, red_le, red_le, red_le, Ideal.ofBits_zero_f32]
  simp only [q00_at, q01_at, q10_at, q11_at]
  constructor
  · rintro ⟨⟨⟨⟨h, h00⟩, h01⟩, h10⟩, h11⟩
    refine ⟨h, fun r N => ?_⟩
    rcases half_cases r with ⟨s, rfl⟩ | ⟨s, rfl⟩ <;> rcases col_cases N with ⟨k, rfl⟩ | ⟨k, rfl⟩
    · exact h00 s k
    · exact h01 s k
    · exact h10 s k
    · exact h11 s k
  · rintro ⟨h, H⟩
    exact ⟨⟨⟨⟨h, fun r n => H _ _⟩, fun r n => H _ _⟩, fun r n => H _ _⟩, fun r n => H _ _⟩

/-- Every device is in one of the slots of the maxima. -/
theorem slot_of : ∀ c d : Dev nD, ∃ j : Fin 4, off (3 - j.val) c = d := by decide
/-- A slot of the maxima holds the largest entry of its device. -/
theorem GM_val (c : Dev nD) (i : S4x8x128.Idx) : GM m c i = vmax m (off (3 - (show Fin 4 from i 0).val) c) := by
  unfold GM VM
  rw [am_at]

/-- The largest entry of all, as the kernel takes it from the maxima. -/
theorem top_le (c : Dev nD) (b : EReal) : k0_pay34 (GM m c) ≤ b ↔ 0 ≤ b ∧ ∀ R N, tot m R N ≤ b := by
  have h1 : k0_pay34 (GM m c) ≤ b ↔ ∀ i, GM m c i ≤ b := by
    rw [pay34_eq]; exact redG_le _ b
  rw [h1]
  constructor
  · intro H
    have hd (d : Dev nD) : vmax m d ≤ b := by
      obtain ⟨j, rfl⟩ := slot_of c d
      have h := H (ix3 j 0 0)
      rw [GM_val] at h
      exact h
    refine ⟨((vmax_le m c b).mp (hd c)).1, fun R N => ?_⟩
    obtain ⟨d, r, rfl⟩ := row_cases R
    exact ((vmax_le m d b).mp (hd d)).2 r N
  · rintro ⟨h, H⟩ i
    rw [GM_val]
    exact (vmax_le m _ b).mpr ⟨h, fun r N => H _ N⟩

end Cert.KernelIdeal.Ring

end
-- ==== Proof.IdealOut.lean ====
/-
# What a device leaves as its result

The result is the product's rows of the device, cut off below at zero, scaled by `448 / G` and back by `G / 448` at the largest entry `G`.
-/
module

public import proofs.«01_k».proof.Proof.IdealMax
public import proofs.«01_k».proof.Proof.Gen.KernelIdeal.Points
public import Idealize.ShloMosaic.Lib.Writes

@[expose] public section

set_option maxRecDepth 16384

noncomputable section

namespace Cert.KernelIdeal.Ring

open Cert.KernelIdeal Cert.KernelIdeal.Gen
open Idealize.ShloMosaic
open Idealize.ShloMosaic.TcCoe

/-! ## The result buffer -/

/-- An entry scaled and scaled back, as the kernel does it. -/
def scaled (t G : EReal) : EReal := t * Ideal.div ((448 : ℝ) : EReal) G * (G * ((448⁻¹ : ℝ) : EReal))

section
variable {F : FTy → Type} [FloatOps F] [Named F]
/-- The scale by which the kernel multiplies back; -/
theorem pay35_eq (G : Vec F S4x8x128 .f32) : k0_pay35 G = Scalar.mulf (k0_pay34 G) (Named.named κ "inv448" 0x3B124925#32) := rfl
/-- the factor by which it multiplies first. -/
theorem pay36_eq (G : Vec F S4x8x128 .f32) : k0_pay36 G = Scalar.divf (Scalar.ofBits .f32 0x43E00000#32) (k0_pay34 G) := rfl
end

/-- The kernel's product and quotient of two numbers, and its constants. -/
theorem smul_eq (a b : Ideal .f32) : Scalar.mulf a b = (a * b : EReal) := rfl
/-- The quotient of two numbers is the extended reals' division. -/
theorem sdiv_eq (a b : Ideal .f32) : Scalar.divf a b = Ideal.div a b := rfl
/-- A constant is the number its bits encode. -/
theorem sbits_eq (b : BitVec 32) : (Scalar.ofBits .f32 b : Ideal .f32) = Ideal.ofBits .f32 b := rfl
/-- The named constant is the inverse of 448. -/
theorem inv_eq : (Named.named κ "inv448" 0x3B124925#32 : Ideal .f32) = ((448⁻¹ : ℝ) : EReal) := rfl

/-- The scale is the largest entry times the inverse of 448; -/
theorem pay35_at (G : Vec Ideal S4x8x128 .f32) : k0_pay35 G = (k0_pay34 G * ((448⁻¹ : ℝ) : EReal) : EReal) := by
  rw [pay35_eq, smul_eq, inv_eq]
/-- the factor is 448 divided by the largest entry. -/
theorem pay36_at (G : Vec Ideal S4x8x128 .f32) : k0_pay36 G = Ideal.div ((448 : ℝ) : EReal) (k0_pay34 G) := by
  rw [pay36_eq, sdiv_eq, sbits_eq, c448]
/-- An entry of the left columns, scaled. -/
theorem pay37_at (G : Vec Ideal S4x8x128 .f32) (v : Vec Ideal S1024x1024 .f32) (r n : Fin 1024) :
    k0_pay37 G v (ix2 r n) = scaled (max (v (ix2 r n)) 0) (k0_pay34 G) := by
  have h : k0_pay37 G v (ix2 r n) = (max (v (ix2 r n)) 0 * k0_pay36 G * k0_pay35 G : EReal) := by pointwise [k0_pay37]
  rw [h, pay36_at, pay35_at]; unfold scaled; rfl
/-- An entry of the right columns, scaled. -/
theorem pay39_at (G : Vec Ideal S4x8x128 .f32) (v : Vec Ideal S1024x1024 .f32) (r n : Fin 1024) :
    k0_pay39 (k0_pay35 G) (k0_pay36 G) (k0_pay38 v) (ix2 r n) = scaled (max (v (ix2 r n)) 0) (k0_pay34 G) := by
  have h : k0_pay39 (k0_pay35 G) (k0_pay36 G) (k0_pay38 v) (ix2 r n) = (max (v (ix2 r n)) 0 * k0_pay36 G * k0_pay35 G : EReal) := by
    pointwise [k0_pay39, k0_pay38]
  rw [h, pay36_at, pay35_at]; unfold scaled; rfl

/-- The buffer read is the buffer. -/
theorem oM_read (h : OutTy Ideal) (j : S1024x2048.Idx) : oM.view.read (Elt Ideal) h j = h j := congrFun (View.read_whole _ h) j

section
variable (f : OutTy Ideal) (a b d x : S512x1024.Idx → Elt Ideal .f32)
/-- The top left quadrant is what the first store wrote, -/
theorem quad0L (s : Fin 512) (k : Fin 1024) : oM.view.writes (Elt Ideal) f
    [⟨orect11, a⟩, ⟨orect10, b⟩, ⟨orect01, d⟩, ⟨orect00, x⟩] (ix2 (half 0 s) (colL k)) = x (ix2 s k) := by
  refine (oM_read _ _).symm.trans ?_
  rw [View.read_writes_cons_miss_of_axis oM.view f _ _ _ (0 : Fin 2) 512 512 rfl rfl rfl
      (.inl (show 512 * 0 + s.val < 512 by have := s.isLt; omega)),
    View.read_writes_cons_miss_of_axis oM.view f _ _ _ (0 : Fin 2) 512 512 rfl rfl rfl
      (.inl (show 512 * 0 + s.val < 512 by have := s.isLt; omega)),
    View.read_writes_cons_miss_of_axis oM.view f _ _ _ (1 : Fin 2) 1024 1024 rfl rfl rfl
      (.inl (show k.val < 1024 from k.isLt))]
  refine View.read_writes_cons_hit_of_coords oM.view f orect00 _ _ (ix2 s k) _ fun a => ?_
  match a with
  | ⟨0, _⟩ => show 512 * 0 + s.val = 0 + 1 * s.val; omega
  | ⟨1, _⟩ => show k.val = 0 + 1 * k.val; omega
/-- the top right what the second wrote, -/
theorem quad0R (s : Fin 512) (k : Fin 1024) : oM.view.writes (Elt Ideal) f
    [⟨orect11, a⟩, ⟨orect10, b⟩, ⟨orect01, d⟩, ⟨orect00, x⟩] (ix2 (half 0 s) (colR k)) = d (ix2 s k) := by
  refine (oM_read _ _).symm.trans ?_
  rw [View.read_writes_cons_miss_of_axis oM.view f _ _ _ (0 : Fin 2) 512 512 rfl rfl rfl
      (.inl (show 512 * 0 + s.val < 512 by have := s.isLt; omega)),
    View.read_writes_cons_miss_of_axis oM.view f _ _ _ (0 : Fin 2) 512 512 rfl rfl rfl
      (.inl (show 512 * 0 + s.val < 512 by have := s.isLt; omega))]
  refine View.read_writes_cons_hit_of_coords oM.view f orect01 _ _ (ix2 s k) _ fun a => ?_
  match a with
  | ⟨0, _⟩ => show 512 * 0 + s.val = 0 + 1 * s.val; omega
  | ⟨1, _⟩ => show 1024 + k.val = 1024 + 1 * k.val; omega
/-- the bottom left what the third wrote, -/
theorem quad1L (s : Fin 512) (k : Fin 1024) : oM.view.writes (Elt Ideal) f
    [⟨orect11, a⟩, ⟨orect10, b⟩, ⟨orect01, d⟩, ⟨orect00, x⟩] (ix2 (half 1 s) (colL k)) = b (ix2 s k) := by
  refine (oM_read _ _).symm.trans ?_
  rw [View.read_writes_cons_miss_of_axis oM.view f _ _ _ (1 : Fin 2) 1024 1024 rfl rfl rfl
      (.inl (show k.val < 1024 from k.isLt))]
  refine View.read_writes_cons_hit_of_coords oM.view f orect10 _ _ (ix2 s k) _ fun a => ?_
  match a with
  | ⟨0, _⟩ => show 512 * 1 + s.val = 512 + 1 * s.val; omega
  | ⟨1, _⟩ => show k.val = 0 + 1 * k.val; omega
/-- the bottom right what the fourth wrote. -/
theorem quad1R (s : Fin 512) (k : Fin 1024) : oM.view.writes (Elt Ideal) f
    [⟨orect11, a⟩, ⟨orect10, b⟩, ⟨orect01, d⟩, ⟨orect00, x⟩] (ix2 (half 1 s) (colR k)) = a (ix2 s k) := by
  refine (oM_read _ _).symm.trans ?_
  refine View.read_writes_cons_hit_of_coords oM.view f orect11 _ _ (ix2 s k) _ fun a => ?_
  match a with
  | ⟨0, _⟩ => show 512 * 1 + s.val = 512 + 1 * s.val; omega
  | ⟨1, _⟩ => show 1024 + k.val = 1024 + 1 * k.val; omega
end

section
variable (f : OutTy Ideal) (w : S1024x1024.Idx → Elt Ideal .f32) (r n : Fin 1024)
/-- A store of the left columns changes the left columns, -/
theorem storeL_hit : oM.view.writes (Elt Ideal) f [⟨wrectL, w⟩] (ix2 r (colL n)) = w (ix2 r n) := by
  refine (oM_read _ _).symm.trans ?_
  refine View.read_writes_cons_hit_of_coords oM.view f wrectL _ _ (ix2 r n) _ fun a => ?_
  match a with
  | ⟨0, _⟩ => show r.val = 0 + 1 * r.val; omega
  | ⟨1, _⟩ => show n.val = 0 + 1 * n.val; omega
/-- and leaves the right ones. -/
theorem storeL_miss : oM.view.writes (Elt Ideal) f [⟨wrectL, w⟩] (ix2 r (colR n)) = f (ix2 r (colR n)) := by
  refine (oM_read _ _).symm.trans ?_
  rw [View.read_writes_cons_miss_of_axis oM.view f _ _ _ (1 : Fin 2) 0 1024 rfl rfl rfl (.inr (show 0 + 1024 ≤ 1024 + n.val by omega))]
  rfl
/-- A load of the left columns reads the left columns. -/
theorem loadL : oM.view.readAt (Elt Ideal) wrectL.toLoadRect f (ix2 r n) = f (ix2 r (colL n)) := by
  show f (wrectL.emb (ix2 r n)) = _
  refine congrArg f (funext fun a => Fin.ext ?_)
  match a with
  | ⟨0, _⟩ => show 0 + 1 * r.val = r.val; omega
  | ⟨1, _⟩ => show 0 + 1 * n.val = n.val; omega
/-- A store of the right columns changes the right columns, -/
theorem storeR_hit : oM.view.writes (Elt Ideal) f [⟨wrectR, w⟩] (ix2 r (colR n)) = w (ix2 r n) := by
  refine (oM_read _ _).symm.trans ?_
  refine View.read_writes_cons_hit_of_coords oM.view f wrectR _ _ (ix2 r n) _ fun a => ?_
  match a with
  | ⟨0, _⟩ => show r.val = 0 + 1 * r.val; omega
  | ⟨1, _⟩ => show 1024 + n.val = 1024 + 1 * n.val; omega
/-- and leaves the left ones. -/
theorem storeR_miss : oM.view.writes (Elt Ideal) f [⟨wrectR, w⟩] (ix2 r (colL n)) = f (ix2 r (colL n)) := by
  refine (oM_read _ _).symm.trans ?_
  rw [View.read_writes_cons_miss_of_axis oM.view f _ _ _ (1 : Fin 2) 1024 1024 rfl rfl rfl (.inl (show n.val < 1024 from n.isLt))]
  rfl
/-- A load of the right columns reads the right columns. -/
theorem loadR : oM.view.readAt (Elt Ideal) wrectR.toLoadRect f (ix2 r n) = f (ix2 r (colR n)) := by
  show f (wrectR.emb (ix2 r n)) = _
  refine congrArg f (funext fun a => Fin.ext ?_)
  match a with
  | ⟨0, _⟩ => show 0 + 1 * r.val = r.val; omega
  | ⟨1, _⟩ => show 1024 + 1 * n.val = 1024 + n.val; omega
end

variable (m : (ℓ : Loc nD τ sig) → Buf (Elt Ideal) ℓ)

/-- The four quadrants together are the product's rows of the device. -/
theorem o4_at (c : Dev nD) (f : OutTy Ideal) (r : Fin 1024) (N : Fin 2048) : o4 m c f (ix2 r N) = tot m (rowOf c r) N := by
  rw [o4_writes]
  rcases half_cases r with ⟨s, rfl⟩ | ⟨s, rfl⟩ <;> rcases col_cases N with ⟨k, rfl⟩ | ⟨k, rfl⟩
  · rw [quad0L, q00_at]
  · rw [quad0R, q01_at]
  · rw [quad1L, q10_at]
  · rw [quad1R, q11_at]

/-- The last two stores, as writes of the whole buffer. -/
theorem o5_writes (c : Dev nD) (f : OutTy Ideal) : o5 m c f = oM.view.writes (Elt Ideal) (o4 m c f)
      [⟨wrectL, k0_pay37 (GM m c) (oM.view.readAt (Elt Ideal) wrectL.toLoadRect (o4 m c f))⟩] := by
  unfold o5
  simp only [View.writes_cons, View.writes_nil]
/-- The last store, as a write of the whole buffer. -/
theorem o6_writes (c : Dev nD) (f : OutTy Ideal) : o6 m c f = oM.view.writes (Elt Ideal) (o5 m c f)
      [⟨wrectR, k0_pay39 (k0_pay35 (GM m c)) (k0_pay36 (GM m c)) (k0_pay38 (oM.view.readAt (Elt Ideal) wrectR.toLoadRect (o5 m c f)))⟩] := by
  unfold o6
  simp only [View.writes_cons, View.writes_nil]

/-- After the fifth store the left columns are scaled, -/
theorem o5_left (c : Dev nD) (f : OutTy Ideal) (r n : Fin 1024) :
    o5 m c f (ix2 r (colL n)) = scaled (max (tot m (rowOf c r) (colL n)) 0) (k0_pay34 (GM m c)) := by
  rw [o5_writes, storeL_hit, pay37_at, loadL, o4_at]
/-- and the right ones still hold the product. -/
theorem o5_right (c : Dev nD) (f : OutTy Ideal) (r n : Fin 1024) : o5 m c f (ix2 r (colR n)) = tot m (rowOf c r) (colR n) := by
  rw [o5_writes, storeL_miss, o4_at]

/-- What device `c` leaves, at an index. -/
theorem outAt_at (c : Dev nD) (r : Fin 1024) (N : Fin 2048) :
    outAt c m (ix2 r N) = scaled (max (tot m (rowOf c r) N) 0) (k0_pay34 (GM m c)) := by
  unfold outAt
  rw [o6_writes]
  rcases col_cases N with ⟨n, rfl⟩ | ⟨n, rfl⟩
  · rw [storeR_miss, o5_left]
  · rw [storeR_hit, pay39_at, loadR, o5_right]

/-! ## The result array -/

/-- The result's block index at the one point is zero on every axis. -/
theorem o_idx : ∀ t : Fin cfg0.N, win0_1.index t (0 : Fin 2) = 0 ∧ win0_1.index t (1 : Fin 2) = 0 :=
  (by decide +kernel : ∀ t : Fin grid0.N, _)
/-- An index of the result's block is the same index of the array. -/
theorem o_emb (t : Fin cfg0.N) (j : S1024x2048.Idx) : ((cfg0.win 1).blk t).view.emb j = j := by
  obtain ⟨e0, e1⟩ := o_idx t
  funext a; apply Fin.ext
  match a with
  | ⟨0, _⟩ => show win0_1.index t (0 : Fin 2) * 1024 + 1 * (j 0).val = (j 0).val; omega
  | ⟨1, _⟩ => show win0_1.index t (1 : Fin 2) * 2048 + 1 * (j 1).val = (j 1).val; omega

/-- The result array after the run is what the body left. -/
theorem final_out (c : Dev nD) : finalA m c (1 : Fin 2) = outAt c m := by
  refine (dats m 0 c).arrAt_eq_of_cover 1 (outAt c m) (fun t _ => ?_) fun i => ⟨⟨0, by decide⟩, flush0_1 _, ?_⟩
  · funext j
    show outAt c m j = outAt c m (((cfg0.win 1).blk t).view.emb j)
    rw [o_emb]
  · have h := ((cfg0.win 1).blk (⟨0, by decide⟩ : Fin cfg0.N)).view.emb_mem_set i
    rwa [o_emb] at h

end Cert.KernelIdeal.Ring

end
-- ==== Proof.RefForm.lean ====
/-
# The reference at an index

The reference's result at an index: the product's entry cut off below at zero, divided by the scale, clipped, and
multiplied by the scale, the scale being the largest entry over 448.
-/
module

public import proofs.«01_k».proof.Proof.IdealQuant
public import proofs.«01_k».proof.Proof.Gen.ReferenceIdeal.Value
public import Idealize.ShloMosaic.Lib.Pointwise

@[expose] public section

set_option maxRecDepth 16384

noncomputable section

namespace Cert.ReferenceIdeal.Form

open Cert.ReferenceIdeal Cert.ReferenceIdeal.Gen
open Idealize.ShloMosaic
open Idealize.ShloMosaic.TcCoe
open Cert.KernelIdeal.Ring (redMax_le cast_le c448)

section
variable {F : FTy → Type} [FloatOps F]

/-- The product cut off below at zero. -/
def relu (a0 : FVec F S4096x4096 .f32) (a1 : FVec F S4096x2048 .f32) : FVec F S4096x2048 .f32 :=
  maximumf (matmul dot_S4096x4096_S4096x2048_S4096x2048_1_0_0_1_n_n none a0 a1 (constant S4096x2048 .f32 0x00000000#32))
    (broadcast S4096x2048 (Scalar.ofBits .f32 0x00000000#32))
/-- The largest entry, as the reference takes it. -/
def top (y : FVec F S4096x2048 .f32) : F .f32 :=
  extractAt ![0, 0, 0] (shapeCast S1x1x1 (multiReduction .maximumf [1, 2] S1 (shapeCast S1x4096x2048 y shapeCasts_S4096x2048_S1x4096x2048)
    0xFF800000#32 reduces_S1x4096x2048_S1 (.inl rfl) rfl) shapeCasts_S1_S1x1x1) inpos_S1x1x1_p0_0_0
/-- The quantiser at scale `s`. -/
def quantised (y : FVec F S4096x2048 .f32) (s : F .f32) : FVec F S4096x2048 .f32 :=
  mulf (extf .f32 (truncf .fp8e4m3 (minimumf (divf y (broadcast S4096x2048 s)) (broadcast S4096x2048 (Scalar.ofBits .f32 0x43E00000#32)))
    bitsLt_fp8e4m3_f32) bitsLt_fp8e4m3_f32) (broadcast S4096x2048 s)
/-- The reference is these three. -/
theorem pay1_eq (a0 : FVec F S4096x4096 .f32) (a1 : FVec F S4096x2048 .f32) :
    k0_pay1 a0 a1 = quantised (relu a0 a1) (Scalar.divf (top (absf (relu a0 a1))) (Scalar.ofBits .f32 0x43E00000#32)) := rfl
end

/-- The shape of one entry has one index. -/
theorem one_idx (a b : S1.Idx) : a = b := by
  funext i
  match i with
  | ⟨0, _⟩ => exact Subsingleton.elim (α := Fin 1) _ _
/-- The one entry of a vector of one entry, recast and extracted. -/
theorem ext_cast {u : Shape} (x : S1.Idx → EReal) (h : S1.ShapeCasts u) (pos : Fin u.rank → ℕ) (hp : ∀ a, pos a < u.size a)
    (j : S1.Idx) : extractAt pos (shapeCast u x h) hp = x j := congrArg x (one_idx _ _)

/-- A number bounds the reference's largest entry exactly when it bounds every entry. -/
theorem top_le (y : FVec Ideal S4096x2048 .f32) (b : EReal) : (top y : EReal) ≤ b ↔ ∀ R N, y (ix2 R N) ≤ b := by
  unfold top
  rw [ext_cast _ _ _ _ (ix1 (0 : Fin 1))]
  refine (redMax_le (shapeCast S1x4096x2048 y shapeCasts_S4096x2048_S1x4096x2048) reduces_S1x4096x2048_S1 (.inl rfl) rfl one_idx
    (ix1 (0 : Fin 1)) b).trans ?_
  rw [cast_le]
  exact ⟨fun H r n => H _, fun H i => by rw [eq_ix2 i]; exact H _ _⟩

/-- The product cut off below at zero, at an index. -/
theorem relu_at (a0 : FVec Ideal S4096x4096 .f32) (a1 : FVec Ideal S4096x2048 .f32) (R : Fin 4096) (N : Fin 2048) :
    relu a0 a1 (ix2 R N) = max (∑ k : Fin 4096, a0 (ix2 R k) * a1 (ix2 k N)) 0 := by
  pointwise [relu]
/-- The absolute value is the larger of a number and its negative. -/
theorem abs_at (y : FVec Ideal S4096x2048 .f32) (i : S4096x2048.Idx) : absf y i = max (y i : EReal) (-(y i : EReal)) := rfl
/-- The quantiser at an index: divide, clip, multiply. -/
theorem quantised_at (y : FVec Ideal S4096x2048 .f32) (s : Ideal .f32) (R : Fin 4096) (N : Fin 2048) :
    quantised y s (ix2 R N) = (min (Ideal.div (y (ix2 R N)) s) (Ideal.ofBits .f32 0x43E00000#32) * s : EReal) := by
  pointwise [quantised]
/-- The quotient of two numbers is the extended reals' division. -/
theorem sdiv_eq (a b : Ideal .f32) : Scalar.divf a b = Ideal.div a b := rfl
/-- A constant is the number its bits encode. -/
theorem sbits_eq (b : BitVec 32) : (Scalar.ofBits .f32 b : Ideal .f32) = Ideal.ofBits .f32 b := rfl

/-- The largest entry of the reference. -/
def big (a0 : FVec Ideal S4096x4096 .f32) (a1 : FVec Ideal S4096x2048 .f32) : EReal := top (absf (relu a0 a1))
/-- A number bounds it exactly when it bounds every entry of the product cut off at zero. -/
theorem big_le (a0 : FVec Ideal S4096x4096 .f32) (a1 : FVec Ideal S4096x2048 .f32) (b : EReal) :
    big a0 a1 ≤ b ↔ ∀ (R : Fin 4096) (N : Fin 2048), max (∑ k : Fin 4096, a0 (ix2 R k) * a1 (ix2 k N)) 0 ≤ b := by
  unfold big
  rw [top_le]
  refine forall_congr' fun R => forall_congr' fun N => ?_
  rw [abs_at, relu_at]
  have h : (0 : EReal) ≤ max (∑ k : Fin 4096, a0 (ix2 R k) * a1 (ix2 k N)) 0 := le_max_right _ _
  have h' : -max (∑ k : Fin 4096, a0 (ix2 R k) * a1 (ix2 k N)) 0 ≤ (0 : EReal) := by
    have := EReal.neg_le_neg_iff.mpr h
    rwa [neg_zero] at this
  rw [max_eq_left (h'.trans h)]

/-- The reference at an index. -/
theorem out_at (a0 : FVec Ideal S4096x4096 .f32) (a1 : FVec Ideal S4096x2048 .f32) (R : Fin 4096) (N : Fin 2048) :
    k0_pay1 (F := Ideal) a0 a1 (ix2 R N)
      = min (Ideal.div (max (∑ k : Fin 4096, a0 (ix2 R k) * a1 (ix2 k N)) 0) (Ideal.div (big a0 a1) ((448 : ℝ) : EReal)))
          ((448 : ℝ) : EReal) * Ideal.div (big a0 a1) ((448 : ℝ) : EReal) := by
  rw [pay1_eq, quantised_at, relu_at, sdiv_eq, sbits_eq, c448]
  rfl

end Cert.ReferenceIdeal.Form

end
-- ==== Proof.IdealValue.lean ====
/-
# The kernel computes the reference

With every device holding its columns of `x` and its rows of the weights, the sum of the devices' parts is the whole
product, the largest entry is the reference's, and each device's result is its rows of the reference's result.
-/
module

public import proofs.«01_k».proof.Proof.IdealOut
public import proofs.«01_k».proof.Proof.RefForm
public import Idealize.ShloMosaic.Lib.Layout

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.Sem

/-- A sum over the whole inner dimension is the sum over the devices of the sums over their blocks. -/
theorem sum_blocks (g : Fin 4096 → EReal) : ∑ K : Fin 4096, g K = ∑ d : Dev nD, ∑ k : Fin 1024, g (rowOf d k) := by
  rw [← Fintype.sum_prod_type' (fun (d : Dev nD) (k : Fin 1024) => g (rowOf d k))]
  refine (Fintype.sum_equiv (finProdFinEquiv : Fin 4 × Fin 1024 ≃ Fin 4096) _ _ fun p => ?_).symm
  refine congrArg g (Fin.ext ?_)
  show 1024 * p.1.val + p.2.val = p.2.val + 1024 * p.1.val
  omega

/-- `x` is cut into four blocks of columns, the weights and the result into four blocks of rows. -/
theorem tiles_x : Layout.Tiles ⟨2, ![4096, 1024]⟩ ⟨2, ![4096, 4096]⟩ 1 4 := by decide
/-- The weights and the result are cut into four blocks of rows. -/
theorem tiles_w : Layout.Tiles ⟨2, ![1024, 2048]⟩ ⟨2, ![4096, 2048]⟩ 0 4 := by decide

variable (m : (ℓ : Loc nD τ sig) → Buf (Elt Ideal) ℓ)
  (a0 : (⟨2, ![4096, 4096]⟩ : Shape).Idx → EReal) (a1 : (⟨2, ![4096, 2048]⟩ : Shape).Idx → EReal)
  (hx : ∀ c : Dev nD, m ((c : Thread nD τ).loc main_arg0) = Layout.block ⟨2, ![4096, 1024]⟩ ⟨2, ![4096, 4096]⟩ 1 4 c a0 tiles_x)
  (hw : ∀ c : Dev nD, m ((c : Thread nD τ).loc main_arg1) = Layout.block ⟨2, ![1024, 2048]⟩ ⟨2, ![4096, 2048]⟩ 0 4 c a1 tiles_w)

include hx in
/-- A device's entry of `x` is the whole `x`'s at the device's column. -/
theorem xe_whole (c : Dev nD) (R : Fin 4096) (k : Fin 1024) : xe m c R k = a0 (ix2 R (rowOf c k)) := by
  unfold xe xv
  rw [hx c, Layout.block_apply]
  refine congrArg a0 (funext fun a => Fin.ext ?_)
  match a with
  | ⟨0, _⟩ => rfl
  | ⟨1, _⟩ => show c.val * 1024 + k.val = 1024 * c.val + k.val; omega
include hw in
/-- A device's entry of the weights is the whole weights' at the device's row. -/
theorem we_whole (c : Dev nD) (k : Fin 1024) (N : Fin 2048) : we m c k N = a1 (ix2 (rowOf c k) N) := by
  unfold we
  rw [hw c, Layout.block_apply]
  refine congrArg a1 (funext fun a => Fin.ext ?_)
  match a with
  | ⟨0, _⟩ => show c.val * 1024 + k.val = 1024 * c.val + k.val; omega
  | ⟨1, _⟩ => rfl

include hx hw in
/-- The sum of the parts is the whole product. -/
theorem tot_whole (R : Fin 4096) (N : Fin 2048) : tot m R N = ∑ k : Fin 4096, a0 (ix2 R k) * a1 (ix2 k N) := by
  rw [sum_blocks]
  unfold tot part
  simp only [xe_whole m a0 hx, we_whole m a1 hw]

include hx hw in
/-- The kernel's largest entry is the reference's. -/
theorem top_whole (c : Dev nD) : k0_pay34 (GM m c) = Cert.ReferenceIdeal.Form.big a0 a1 := by
  refine eq_of_forall_ge_iff fun b => ?_
  rw [top_le, Cert.ReferenceIdeal.Form.big_le]
  simp only [tot_whole m a0 a1 hx hw]
  constructor
  · rintro ⟨h, H⟩ R N
    exact max_le (H R N) h
  · intro H
    exact ⟨(le_max_right _ _).trans (H 0 0), fun R N => (le_max_left _ _).trans (H R N)⟩

include hx hw in
/-- Each device's result is its rows of the reference's result. -/
theorem out_whole (c : Dev nD) : outAt c m
    = Layout.block ⟨2, ![1024, 2048]⟩ ⟨2, ![4096, 2048]⟩ 0 4 c (Cert.ReferenceIdeal.Gen.k0_pay1 (F := Ideal) a0 a1) tiles_w := by
  funext i
  obtain ⟨r, N, rfl⟩ : ∃ (r : Fin 1024) (N : Fin 2048), i = ix2 r N := ⟨i 0, i 1, eq_ix2 (show S1024x2048.Idx from i)⟩
  rw [Layout.block_apply, outAt_at, top_whole m a0 a1 hx hw, tot_whole m a0 a1 hx hw]
  have hi (h : Layout.Tiles ⟨2, ![1024, 2048]⟩ ⟨2, ![4096, 2048]⟩ 0 4) (r : Fin 1024) (N : Fin 2048) :
      h.idx c (ix2 r N) = ix2 (rowOf c r) N := by
    refine funext fun a => Fin.ext ?_
    match a with
    | ⟨0, _⟩ => show c.val * 1024 + r.val = 1024 * c.val + r.val; omega
    | ⟨1, _⟩ => rfl
  rw [hi, Cert.ReferenceIdeal.Form.out_at]
  exact quant _ _ (le_max_right _ _) ((Cert.ReferenceIdeal.Form.big_le a0 a1 _).mp (le_refl _) _ _)

include hx hw in
/-- The kernel's run: the result is the device's rows of the reference's result, the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v1)
        = Layout.block ⟨2, ![1024, 2048]⟩ ⟨2, ![4096, 2048]⟩ 0 4 c (Cert.ReferenceIdeal.Gen.k0_pay1 (F := Ideal) a0 a1) tiles_w
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 (1 : Fin 2)).trans ((final_out m c).trans (out_whole m a0 a1 hx hw c)),
    (h.1 c).2, ((h.1 c).1 (0 : Fin 2)).trans (finalA_w m c)⟩) (run_main m ρ)

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.IdealLaunch
public import proofs.«01_k».proof.Proof.ShippedLaunch
public import proofs.«01_k».proof.Proof.IdealValue
public import Idealize.ShloMosaic.Adequacy
public import Idealize.ShloMosaic.Init

@[expose] public section

noncomputable section

namespace Cert.Proof

open Idealize.ShloMosaic Idealize.SL.Sem Cert.Kernel

/-- The three frames, the one named constant, and the kernel's result as the reference's. -/
theorem claim : Cert.Claim := ⟨Cert.Kernel.Gen.facts, Cert.KernelIdeal.Gen.facts, Cert.ReferenceIdeal.Gen.facts,
  fun m g _ => Cert.Kernel.Ring.run_frame (F := Bits) m g,
  fun m g _ => Cert.KernelIdeal.Ring.run_frame (F := Ideal) m g,
  fun m g _ => Cert.ReferenceIdeal.Gen.frame m g,
  ⟨rfl, fun _ => IdealRules.named_const.ideal_named _ _ _ _ rfl, IdealRules.named_const.ideal_named_scalar _ _ _ _ rfl⟩,
  fun m g m' g' _ hin => ⟨Cert.ReferenceIdeal.Value.G2 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    Cert.KernelIdeal.Ring.run_value m _ _ (fun c => (hin c).1) (fun c => (hin c).2) g,
    (θ_run Cert.ReferenceIdeal.defs _ _).mono (fun _ h => h 0) (Cert.ReferenceIdeal.Value.run m' g')⟩⟩

end Cert.Proof

end
